-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_nonzero [hPre_rows_nonzero : Cert.Pre_rows_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_rows_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_nonzero [hPre_rows_nonzero : Cert.Pre_rows_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_nonzero [hKernelIdeal : Cert.KernelIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_nonzero [hReferenceIdeal : Cert.ReferenceIdeal.Facts] [hPre_rows_nonzero : Cert.Pre_rows_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_rows_nonzero [hKernelIdeal : Cert.KernelIdeal.Facts] [hReferenceIdeal : Cert.ReferenceIdeal.Facts] [hPre_rows_nonzero : Cert.Pre_rows_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_nonzero : Cert.Pre_rows_nonzero.Facts),
    quiescent_Kernel (hKernel := hKernel)
    ∧ quiescent_KernelIdeal (hKernelIdeal := hKernelIdeal)
    ∧ quiescent_KernelIdeal_pre_rows_nonzero (hKernelIdeal := hKernelIdeal) (hPre_rows_nonzero := hPre_rows_nonzero)
    ∧ quiescent_ReferenceIdeal (hReferenceIdeal := hReferenceIdeal)
    ∧ quiescent_ReferenceIdeal_pre_rows_nonzero (hReferenceIdeal := hReferenceIdeal) (hPre_rows_nonzero := hPre_rows_nonzero)
    ∧ preserves_Kernel_KernelIdeal
    ∧ algebraic_KernelIdeal_ReferenceIdeal_pre_rows_nonzero (hKernelIdeal := hKernelIdeal) (hReferenceIdeal := hReferenceIdeal) (hPre_rows_nonzero := hPre_rows_nonzero)
-- ==== Pre_rows_nonzero.lean ====
abbrev S4x2048x128 : Shape := ⟨3, ![4, 2048, 128]⟩
abbrev S32x128 : Shape := ⟨2, ![32, 128]⟩
abbrev S32 : Shape := ⟨1, ![32]⟩
abbrev S128x128 : Shape := ⟨2, ![128, 128]⟩
abbrev S_ : Shape := ⟨0, ![]⟩
abbrev S4x2048 : Shape := ⟨2, ![4, 2048]⟩

class Facts : Prop where
  reducesTo_S4x2048x128_S4x2048_d2 : S4x2048x128.ReducesTo [2] S4x2048
  h_S_ : 0 < S_.numel
  bcast_S_S4x2048 : S_.BroadcastsInDim S4x2048 (![] : Fin 0 → Fin S4x2048.rank)

variable [Facts]

def fn {F : FTy → Type} [FloatOps F] (main_arg0 : FVec F S4x2048x128 .f32) (main_arg1 : FVec F S32x128 .f32) (main_arg2 : FVec F S32 .f32) (main_arg3 : FVec F S128x128 .f32) (main_arg4 : FVec F S128x128 .f32) : IVec S4x2048 1 :=
  let main_v0 : FVec F S4x2048x128 .f32 := mulf main_arg0 main_arg0
  let main_cst : FVec F S_ .f32 := constant S_ .f32 0x00000000#32
  let main_v1 : FVec F S4x2048 .f32 := (fun x v => Host.reduceAdd x v reducesTo_S4x2048x128_S4x2048_d2 h_S_) main_v0 main_cst
  let main_cst_0 : FVec F S_ .f32 := constant S_ .f32 0x00000000#32
  let main_v2 : FVec F S4x2048 .f32 := broadcastInDim S4x2048 ![] bcast_S_S4x2048 main_cst_0
  let main_v3 : IVec S4x2048 1 := cmpf .ogt main_v1 main_v2
  main_v3
-- ==== Kernel.lean ====
abbrev S4x2048x128 : Shape := ⟨3, ![4, 2048, 128]⟩
abbrev S32x128 : Shape := ⟨2, ![32, 128]⟩
abbrev S32 : Shape := ⟨1, ![32]⟩
abbrev S128x128 : Shape := ⟨2, ![128, 128]⟩
abbrev S4x128x2048 : Shape := ⟨3, ![4, 128, 2048]⟩
abbrev S128x32 : Shape := ⟨2, ![128, 32]⟩
abbrev S1x32 : Shape := ⟨2, ![1, 32]⟩
abbrev S4x2048x32 : Shape := ⟨3, ![4, 2048, 32]⟩
abbrev S1x256x128 : Shape := ⟨3, ![1, 256, 128]⟩
abbrev S1x128x2048 : Shape := ⟨3, ![1, 128, 2048]⟩
abbrev S1x256x32 : Shape := ⟨3, ![1, 256, 32]⟩
abbrev S256x128 : Shape := ⟨2, ![256, 128]⟩
abbrev S128x2048 : Shape := ⟨2, ![128, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S256x32 : Shape := ⟨2, ![256, 32]⟩
abbrev S1x2048x32 : Shape := ⟨3, ![1, 2048, 32]⟩
abbrev S1x2048x128 : Shape := ⟨3, ![1, 2048, 128]⟩
abbrev S2048x32 : Shape := ⟨2, ![2048, 32]⟩
abbrev S2048x1 : Shape := ⟨2, ![2048, 1]⟩
abbrev S2048x128 : Shape := ⟨2, ![2048, 128]⟩

abbrev nBuf : Space → Nat
  | .hbm => 13
  | .vmem => 24
  | .smem => 0
  | _ => 0

abbrev bufTy : (tb : Table) → Fin (tcTables nBuf tb) → BufTy
  | .hbm, ⟨0, _⟩ => ⟨S4x2048x128, .f32⟩
  | .hbm, ⟨1, _⟩ => ⟨S32x128, .f32⟩
  | .hbm, ⟨2, _⟩ => ⟨S32, .f32⟩
  | .hbm, ⟨3, _⟩ => ⟨S128x128, .f32⟩
  | .hbm, ⟨4, _⟩ => ⟨S128x128, .f32⟩
  | .hbm, ⟨5, _⟩ => ⟨S4x128x2048, .f32⟩
  | .hbm, ⟨6, _⟩ => ⟨S128x32, .f32⟩
  | .hbm, ⟨7, _⟩ => ⟨S1x32, .f32⟩
  | .hbm, ⟨8, _⟩ => ⟨S128x128, .f32⟩
  | .hbm, ⟨9, _⟩ => ⟨S128x128, .f32⟩
  | .hbm, ⟨10, _⟩ => ⟨S4x2048x32, .i32⟩
  | .hbm, ⟨11, _⟩ => ⟨S4x2048x32, .f32⟩
  | .hbm, ⟨12, _⟩ => ⟨S4x2048x128, .f32⟩
  | .local _ .vmem, ⟨0, _⟩ => ⟨S1x256x128, .f32⟩
  | .local _ .vmem, ⟨1, _⟩ => ⟨S1x256x128, .f32⟩
  | .local _ .vmem, ⟨2, _⟩ => ⟨S1x128x2048, .f32⟩
  | .local _ .vmem, ⟨3, _⟩ => ⟨S1x128x2048, .f32⟩
  | .local _ .vmem, ⟨4, _⟩ => ⟨S128x32, .f32⟩
  | .local _ .vmem, ⟨5, _⟩ => ⟨S1x32, .f32⟩
  | .local _ .vmem, ⟨6, _⟩ => ⟨S1x256x32, .i32⟩
  | .local _ .vmem, ⟨7, _⟩ => ⟨S1x256x32, .i32⟩
  | .local _ .vmem, ⟨8, _⟩ => ⟨S1x256x32, .f32⟩
  | .local _ .vmem, ⟨9, _⟩ => ⟨S1x256x32, .f32⟩
  | .local _ .vmem, ⟨10, _⟩ => ⟨S1x2048x32, .i32⟩
  | .local _ .vmem, ⟨11, _⟩ => ⟨S1x2048x32, .i32⟩
  | .local _ .vmem, ⟨12, _⟩ => ⟨S1x256x32, .i32⟩
  | .local _ .vmem, ⟨13, _⟩ => ⟨S1x256x32, .i32⟩
  | .local _ .vmem, ⟨14, _⟩ => ⟨S1x256x32, .f32⟩
  | .local _ .vmem, ⟨15, _⟩ => ⟨S1x256x32, .f32⟩
  | .local _ .vmem, ⟨16, _⟩ => ⟨S1x2048x128, .f32⟩
  | .local _ .vmem, ⟨17, _⟩ => ⟨S1x2048x128, .f32⟩
  | .local _ .vmem, ⟨18, _⟩ => ⟨S1x256x128, .f32⟩
  | .local _ .vmem, ⟨19, _⟩ => ⟨S1x256x128, .f32⟩
  | .local _ .vmem, ⟨20, _⟩ => ⟨S128x128, .f32⟩
  | .local _ .vmem, ⟨21, _⟩ => ⟨S128x128, .f32⟩
  | .local _ .vmem, ⟨22, _⟩ => ⟨S1x256x128, .f32⟩
  | .local _ .vmem, ⟨23, _⟩ => ⟨S1x256x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S4x2048x128 : Shape := ⟨3, ![4, 2048, 128]⟩
abbrev S32x128 : Shape := ⟨2, ![32, 128]⟩
abbrev S32 : Shape := ⟨1, ![32]⟩
abbrev S128x128 : Shape := ⟨2, ![128, 128]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x2048x32 : Shape := ⟨3, ![4, 2048, 32]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x32x1 : Shape := ⟨4, ![4, 2048, 32, 1]⟩
abbrev S4x2048x32x3 : Shape := ⟨4, ![4, 2048, 32, 3]⟩
abbrev S128x32 : Shape := ⟨2, ![128, 32]⟩
abbrev S1x1x32 : Shape := ⟨3, ![1, 1, 32]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S32x128, .f32⟩
  | .hbm, ⟨2, _⟩ => ⟨S32, .f32⟩
  | .hbm, ⟨3, _⟩ => ⟨S128x128, .f32⟩
  | .hbm, ⟨4, _⟩ => ⟨S128x128, .f32⟩
  | .hbm, ⟨5, _⟩ => ⟨S4x2048x128, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S4x2048x1, .f32⟩
  | .hbm, ⟨10, _⟩ => ⟨S4x2048x128, .f32⟩
  | .hbm, ⟨11, _⟩ => ⟨S4x2048x128, .f32⟩
  | .hbm, ⟨12, _⟩ => ⟨S4x2048x2048, .f32⟩
  | .hbm, ⟨13, _⟩ => ⟨S4x2048x32, .f32⟩
  | .hbm, ⟨14, _⟩ => ⟨S4x2048x32, .i32⟩
  | .hbm, ⟨15, _⟩ => ⟨S4, .i32⟩
  | .hbm, ⟨16, _⟩ => ⟨S4x1x1, .i32⟩
  | .hbm, ⟨17, _⟩ => ⟨S2048, .i32⟩
  | .hbm, ⟨18, _⟩ => ⟨S1x2048x1, .i32⟩
  | .hbm, ⟨19, _⟩ => ⟨S_, .f32⟩
  | .hbm, ⟨20, _⟩ => ⟨S4x2048x2048, .f32⟩
  | .hbm, ⟨21, _⟩ => ⟨S_, .i32⟩
  | .hbm, ⟨22, _⟩ => ⟨S4x1x1, .i32⟩
  | .hbm, ⟨23, _⟩ => ⟨S4x1x1, .i1⟩
  | .hbm, ⟨24, _⟩ => ⟨S_, .i32⟩
  | .hbm, ⟨25, _⟩ => ⟨S4x1x1, .i32⟩
  | .hbm, ⟨26, _⟩ => ⟨S4x1x1, .i32⟩
  | .hbm, ⟨27, _⟩ => ⟨S4x1x1, .i32⟩
  | .hbm, ⟨28, _⟩ => ⟨S_, .i32⟩
  | .hbm, ⟨29, _⟩ => ⟨S1x2048x1, .i32⟩
  | .hbm, ⟨30, _⟩ => ⟨S1x2048x1, .i1⟩
  | .hbm, ⟨31, _⟩ => ⟨S_, .i32⟩
  | .hbm, ⟨32, _⟩ => ⟨S1x2048x1, .i32⟩
  | .hbm, ⟨33, _⟩ => ⟨S1x2048x1, .i32⟩
  | .hbm, ⟨34, _⟩ => ⟨S1x2048x1, .i32⟩
  | .hbm, ⟨35, _⟩ => ⟨S_, .i32⟩
  | .hbm, ⟨36, _⟩ => ⟨S4x2048x32, .i32⟩
  | .hbm, ⟨37, _⟩ => ⟨S4x2048x32, .i1⟩
  | .hbm, ⟨38, _⟩ => ⟨S_, .i32⟩
  | .hbm, ⟨39, _⟩ => ⟨S4x2048x32, .i32⟩
  | .hbm, ⟨40, _⟩ => ⟨S4x2048x32, .i32⟩
  | .hbm, ⟨41, _⟩ => ⟨S4x2048x32, .i32⟩
  | .hbm, ⟨42, _⟩ => ⟨S4x2048x32, .i32⟩
  | .hbm, ⟨43, _⟩ => ⟨S4x2048x32, .i32⟩
  | .hbm, ⟨44, _⟩ => ⟨S4x2048x32x1, .i32⟩
  | .hbm, ⟨45, _⟩ => ⟨S4x2048x32x1, .i32⟩
  | .hbm, ⟨46, _⟩ => ⟨S4x2048x32x1, .i32⟩
  | .hbm, ⟨47, _⟩ => ⟨S4x2048x32x3, .i32⟩
  | .hbm, ⟨48, _⟩ => ⟨S_, .f32⟩
  | .hbm, ⟨49, _⟩ => ⟨S4x2048x32, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S128x32, .f32⟩
  | .hbm, ⟨54, _⟩ => ⟨S4x2048x32, .f32⟩
  | .hbm, ⟨55, _⟩ => ⟨S1x1x32, .f32⟩
  | .hbm, ⟨56, _⟩ => ⟨S4x2048x32, .f32⟩
  | .hbm, ⟨57, _⟩ => ⟨S4x2048x32, .f32⟩
  | .hbm, ⟨58, _⟩ => ⟨S_, .f32⟩
  | .hbm, ⟨59, _⟩ => ⟨S4x2048x2048, .f32⟩
  | .hbm, ⟨60, _⟩ => ⟨S_, .i32⟩
  | .hbm, ⟨61, _⟩ => ⟨S4x1x1, .i32⟩
  | .hbm, ⟨62, _⟩ => ⟨S4x1x1, .i1⟩
  | .hbm, ⟨63, _⟩ => ⟨S_, .i32⟩
  | .hbm, ⟨64, _⟩ => ⟨S4x1x1, .i32⟩
  | .hbm, ⟨65, _⟩ => ⟨S4x1x1, .i32⟩
  | .hbm, ⟨66, _⟩ => ⟨S4x1x1, .i32⟩
  | .hbm, ⟨67, _⟩ => ⟨S_, .i32⟩
  | .hbm, ⟨68, _⟩ => ⟨S1x2048x1, .i32⟩
  | .hbm, ⟨69, _⟩ => ⟨S1x2048x1, .i1⟩
  | .hbm, ⟨70, _⟩ => ⟨S_, .i32⟩
  | .hbm, ⟨71, _⟩ => ⟨S1x2048x1, .i32⟩
  | .hbm, ⟨72, _⟩ => ⟨S1x2048x1, .i32⟩
  | .hbm, ⟨73, _⟩ => ⟨S1x2048x1, .i32⟩
  | .hbm, ⟨74, _⟩ => ⟨S_, .i32⟩
  | .hbm, ⟨75, _⟩ => ⟨S4x2048x32, .i32⟩
  | .hbm, ⟨76, _⟩ => ⟨S4x2048x32, .i1⟩
  | .hbm, ⟨77, _⟩ => ⟨S_, .i32⟩
  | .hbm, ⟨78, _⟩ => ⟨S4x2048x32, .i32⟩
  | .hbm, ⟨79, _⟩ => ⟨S4x2048x32, .i32⟩
  | .hbm, ⟨80, _⟩ => ⟨S4x2048x32, .i32⟩
  | .hbm, ⟨81, _⟩ => ⟨S4x2048x32, .i32⟩
  | .hbm, ⟨82, _⟩ => ⟨S4x2048x32, .i32⟩
  | .hbm, ⟨83, _⟩ => ⟨S4x2048x32x1, .i32⟩
  | .hbm, ⟨84, _⟩ => ⟨S4x2048x32x1, .i32⟩
  | .hbm, ⟨85, _⟩ => ⟨S4x2048x32x1, .i32⟩
  | .hbm, ⟨86, _⟩ => ⟨S4x2048x32x3, .i32⟩
  | .hbm, ⟨87, _⟩ => ⟨S4x2048x2048, .f32⟩
  | .hbm, ⟨88, _⟩ => ⟨S4x2048x2048, .f32⟩
  | .hbm, ⟨89, _⟩ => ⟨S_, .f32⟩
  | .hbm, ⟨90, _⟩ => ⟨S4x2048x2048, .f32⟩
  | .hbm, ⟨91, _⟩ => ⟨S4x2048x2048, .f32⟩
  | .hbm, ⟨92, _⟩ => ⟨S_, .f32⟩
  | .hbm, ⟨93, _⟩ => ⟨S4x2048x2048, .f32⟩
  | .hbm, ⟨94, _⟩ => ⟨S4x2048x2048, .f32⟩
  | .hbm, ⟨95, _⟩ => ⟨S4x2048x2048, .f32⟩
  | .hbm, ⟨96, _⟩ => ⟨S_, .f32⟩
  | .hbm, ⟨97, _⟩ => ⟨S4x2048, .f32⟩
  | .hbm, ⟨98, _⟩ => ⟨S_, .f32⟩
  | .hbm, ⟨99, _⟩ => ⟨S4x2048, .f32⟩
  | .hbm, ⟨100, _⟩ => ⟨S4x2048, .f32⟩
  | .hbm, ⟨101, _⟩ => ⟨S4x2048x1, .f32⟩
  | .hbm, ⟨102, _⟩ => ⟨S4x2048x2048, .f32⟩
  | .hbm, ⟨103, _⟩ => ⟨S4x2048x2048, .f32⟩
  | .hbm, ⟨104, _⟩ => ⟨S4x2048x2048, .f32⟩
  | .hbm, ⟨105, _⟩ => ⟨S_, .f32⟩
  | .hbm, ⟨106, _⟩ => ⟨S4x2048, .f32⟩
  | .hbm, ⟨107, _⟩ => ⟨S4x2048x1, .f32⟩
  | .hbm, ⟨108, _⟩ => ⟨S4x2048x2048, .f32⟩
  | .hbm, ⟨109, _⟩ => ⟨S4x2048x2048, .f32⟩
  | .hbm, ⟨110, _⟩ => ⟨S4x2048x128, .f32⟩
  | .hbm, ⟨111, _⟩ => ⟨S128x128, .f32⟩
  | .hbm, ⟨112, _⟩ => ⟨S4x2048x128, .f32⟩
  | .hbm, ⟨113, _⟩ => ⟨S_, .f32⟩
  | .hbm, ⟨114, _⟩ => ⟨S4x2048x128, .f32⟩
  | .hbm, ⟨115, _⟩ => ⟨S4x2048x128, .f32⟩
  | .hbm, ⟨116, _⟩ => ⟨S128x128, .f32⟩
  | .hbm, ⟨117, _⟩ => ⟨S4x2048x128, .f32⟩
  | .hbm, ⟨118, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_values : Ref sig .tc := ⟨.hbm, 13, rfl⟩
abbrev main_indices : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call1_cst : Ref sig .tc := ⟨.hbm, 113, rfl⟩
abbrev main_call1_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== Proof.Block1.lean ====
/-
  What the second kernel body stores for one block of 256 rows: the attention weights laid out over the columns, the
  columns that pick the row, the softmax, and the two products.
-/
module

public import proofs.«01_k».proof.Proof.Gen.KernelIdeal.Frame
public import Idealize.ShloMosaic.Lib.Pointwise
public import Idealize.ShloMosaic.Lib.Pipeline.ValueKit
public import Idealize.ShloMosaic.Lib.WordCmp

@[expose] public section

set_option maxRecDepth 16384

noncomputable section

namespace Cert.Block1

open Idealize.ShloMosaic Cert.KernelIdeal Cert.KernelIdeal.Gen

/-- A column of a block's 32 columns lies inside it. -/
theorem slices_row : ∀ k : Fin 32, S256x32.Slices ![0, k.val] S256x1 := by decide

/-- A column of the 32 columns of all rows lies inside it. -/
theorem slices_all : ∀ k : Fin 32, S2048x32.Slices ![0, k.val] S2048x1 := by decide

/-- The position of an entry in its row. -/
abbrev lanes : IVec S256x2048 32 := iota .tc S256x2048 32 [1] iota_S256x2048_d1_w32

/-- One round of laying out: weight `k` of each row put at the column that position `k` of the row names. -/
def lay (p : IVec S256x32 32) (a : FVec Ideal S256x32 .f32) (k : Fin 32) (d : FVec Ideal S256x2048 .f32) :
    FVec Ideal S256x2048 .f32 :=
  select (cmpi .eq lanes (broadcastTo S256x2048 (extractStridedSlice S256x1 ![0, k.val] p (slices_row k)) broadcasts_S256x1_S256x2048))
    (broadcastTo S256x2048 (shapeCast S256x1 (extractStridedSlice S256x1 ![0, k.val] a (slices_row k)) shapeCasts_S256x1_S256x1)
      broadcasts_S256x1_S256x2048) d

/-- The weights of the first `k` rounds laid out. -/
def laid (p : IVec S256x32 32) (a : FVec Ideal S256x32 .f32) : (k : ℕ) → k ≤ 32 → FVec Ideal S256x2048 .f32
  | 0, _ => broadcast S256x2048 (Scalar.ofBits .f32 0xCE6E6B28#32)
  | k + 1, h => lay p a ⟨k, h⟩ (laid p a k (Nat.le_of_succ_le h))

/-- One round of looking back: the columns whose position `k` names the row are added. -/
def look (i : grid1.Coords) (q : IVec S2048x32 32) (k : Fin 32) (d : IVec S256x2048 1) : IVec S256x2048 1 :=
  ori d (cmpi .eq (k1_pay5 i) (broadcastTo S256x2048
    (shapeCast S1x2048 (shapeCast S2048 (extractStridedSlice S2048x1 ![0, k.val] q (slices_all k)) shapeCasts_S2048x1_S2048)
      shapeCasts_S2048_S1x2048) broadcasts_S1x2048_S256x2048))

/-- The columns that name the row in one of their first `k` positions. -/
def looked (i : grid1.Coords) (q : IVec S2048x32 32) : (k : ℕ) → k ≤ 32 → IVec S256x2048 1
  | 0, _ => broadcast S256x2048 0#1
  | k + 1, h => look i q ⟨k, h⟩ (looked i q k (Nat.le_of_succ_le h))

/-- The entries before the softmax. -/
def entries (i : grid1.Coords) (q : IVec S2048x32 32) (p : IVec S256x32 32) (a : FVec Ideal S256x32 .f32) :
    FVec Ideal S256x2048 .f32 :=
  select (looked i q 32 le_rfl) (laid p a 32 le_rfl) (broadcast S256x2048 (Scalar.ofBits .f32 0xCE6E6B28#32))

/-- The exponentials of the entries less the greatest entry of their row. -/
def powers (d : FVec Ideal S256x2048 .f32) : FVec Ideal S256x2048 .f32 :=
  exp (subf d (broadcastTo S256x2048 (shapeCast S256x1
    (multiReduction .maximumf [1] S256 d 0xFF800000#32 reduces_S256x2048_S256 (.inl rfl) rfl) shapeCasts_S256_S256x1)
    broadcasts_S256x1_S256x2048))

/-- Each row divided by its sum. -/
def shares (e : FVec Ideal S256x2048 .f32) : FVec Ideal S256x2048 .f32 :=
  divf e (broadcastTo S256x2048 (shapeCast S256x1
    (multiReduction .add [1] S256 e 0x00000000#32 reduces_S256x2048_S256 (.inl rfl) rfl) shapeCasts_S256_S256x1)
    broadcasts_S256x1_S256x2048)

/-- The first summand of the block: the weighted rows times the first matrix, cut off below zero. -/
def first (s : FVec Ideal S256x2048 .f32) (x : Vec Ideal S1x2048x128 .f32) (w : Vec Ideal S128x128 .f32) : FVec Ideal S256x128 .f32 :=
  have x' : FVec Ideal S2048x128 .f32 := shapeCast S2048x128 x shapeCasts_S1x2048x128_S2048x128
  have w' : FVec Ideal S128x128 .f32 := shapeCast S128x128 w shapeCasts_S128x128_S128x128
  have z : FVec Ideal S256x128 .f32 := constant S256x128 .f32 0x00000000#32
  have y : FVec Ideal S256x128 .f32 := matmul dot_S256x2048_S2048x128_S256x128_1_0_0_1_n_n none s x' z
  have y' : FVec Ideal S256x128 .f32 := matmul dot_S256x128_S128x128_S256x128_1_0_0_1_n_n none y w' z
  maximumf y' (broadcast S256x128 (Scalar.ofBits .f32 0x00000000#32))

/-- The body stores the sum of the two summands. -/
theorem out1_7_eq (i : grid1.Coords) (x0 : Vec Ideal S1x2048x32 .i32) (x1 : Vec Ideal S1x256x32 .i32) (x2 : Vec Ideal S1x256x32 .f32)
    (x3 : Vec Ideal S1x2048x128 .f32) (x4 : Vec Ideal S1x256x128 .f32) (x5 : Vec Ideal S128x128 .f32) (x6 : Vec Ideal S128x128 .f32) :
    out1_7 i x0 x1 x2 x3 x4 x5 x6
      = View.canon [⟨r1_4, k1_pay1
          (first (shares (powers (entries i (k1_pay2 (View.ld x0 r1_0)) (k1_pay3 (View.ld x1 r1_1)) (k1_pay4 (View.ld x2 r1_1)))))
            (View.ld x3 r1_2) (View.ld x5 r1_3))
          (k1_pay28 (View.ld x4 r1_4)) (View.ld x6 r1_3)⟩] := rfl

/-- One step of laying the weights out: entry `k` of a row's weights goes to the position that the row picked in round `k`. -/
theorem lay_apply (p : IVec S256x32 32) (a : FVec Ideal S256x32 .f32) (k : Fin 32) (d : FVec Ideal S256x2048 .f32)
    (r : Fin 256) (m : Fin 2048) :
    lay p a k d (ix2 r m) = if p (ix2 r k) = BitVec.ofNat 32 m.val then a (ix2 r k) else d (ix2 r m) := by
  pointwise [lay]
  rw [WordCmp.cmpi_eq_eq]
  by_cases h : p (ix2 r k) = BitVec.ofNat 32 m.val
  · rw [if_pos h, h]; simp [Scalar.select]
  · rw [if_neg h]; simp [Scalar.select, Ne.symm h]

/-- The word of the stand-in for -∞. -/
abbrev neg : EReal := Ideal.ofBits .f32 0xCE6E6B28#32

/-- The weights of the first `k` rounds laid out, when the positions of a row are all different: at the position of a round
    the round's weight, elsewhere the stand-in for -∞. -/
theorem laid_apply (p : IVec S256x32 32) (a : FVec Ideal S256x32 .f32) (r : Fin 256) (π : Fin 32 → Fin 2048)
    (hπ : Function.Injective π) (hp : ∀ k, p (ix2 r k) = BitVec.ofNat 32 (π k).val) (m : Fin 2048) (k : ℕ) (hk : k ≤ 32) :
    (∀ l : Fin 32, l.val < k → π l = m → laid p a k hk (ix2 r m) = a (ix2 r l))
      ∧ ((∀ l : Fin 32, l.val < k → π l ≠ m) → laid p a k hk (ix2 r m) = neg) := by
  have hw : ∀ l, p (ix2 r l) = BitVec.ofNat 32 m.val ↔ π l = m := by
    intro l
    rw [hp l]
    constructor
    · intro h
      have h' := congrArg BitVec.toNat h
      simp only [BitVec.toNat_ofNat] at h'
      exact Fin.ext (by omega)
    · intro h; rw [h]
  induction k with
  | zero => exact ⟨fun l hl => absurd hl (Nat.not_lt_zero _), fun _ => rfl⟩
  | succ k ih =>
    obtain ⟨ih, ih'⟩ := ih (Nat.le_of_succ_le hk)
    rw [laid, lay_apply]
    constructor
    · intro l hl hm
      by_cases he : l = ⟨k, hk⟩
      · rw [← he, if_pos ((hw l).mpr hm)]
      · rw [if_neg fun h => he (hπ (hm.trans ((hw _).mp h).symm))]
        exact ih l (by have : l.val ≠ k := fun e => he (Fin.ext e); omega) hm
    · intro hm
      rw [if_neg fun h => hm ⟨k, hk⟩ (Nat.lt_succ_self k) ((hw _).mp h)]
      exact ih' fun l hl => hm l (by omega)

/-- One step of the column mask: whether row `m` picked this row in round `k`, or did so before. -/
theorem look_apply (i : grid1.Coords) (q : IVec S2048x32 32) (k : Fin 32) (d : IVec S256x2048 1) (r : Fin 256) (m : Fin 2048)
    (n κ : Fin 2048) (hn : n.val = (i 1).val * 256 + r.val) (hq : q (ix2 m k) = BitVec.ofNat 32 κ.val) :
    look i q k d (ix2 r m) = IntOp.ori (d (ix2 r m)) (BitVec.ofBool (decide (κ = n))) := by
  have hw : IntOp.addi (Scalar.muli (BitVec.ofNat 32 (i 1).val) 256#32) (BitVec.ofNat 32 r.val) = BitVec.ofNat 32 n.val := by
    rw [hn]; simp [IntOp.addi, Scalar.muli, IntOp.muli, BitVec.ofNat_add, BitVec.ofNat_mul]
  pointwise [look, k1_pay5]
  rw [hw, hq, WordCmp.cmpi_eq_ofNat (by omega) (by omega)]
  congr 2
  exact decide_eq_decide.mpr ⟨fun h => Fin.ext h.symm, fun h => congrArg Fin.val h.symm⟩

open Classical in
/-- The columns that name the row in one of their first `k` positions. -/
theorem looked_apply (i : grid1.Coords) (q : IVec S2048x32 32) (r : Fin 256) (m : Fin 2048) (n : Fin 2048)
    (hn : n.val = (i 1).val * 256 + r.val) (κ : Fin 32 → Fin 2048) (hq : ∀ l, q (ix2 m l) = BitVec.ofNat 32 (κ l).val)
    (k : ℕ) (hk : k ≤ 32) :
    looked i q k hk (ix2 r m) = BitVec.ofBool (decide (∃ l : Fin 32, l.val < k ∧ κ l = n)) := by
  induction k with
  | zero => simp [looked]; rfl
  | succ k ih =>
    rw [looked, look_apply i q ⟨k, hk⟩ _ r m n (κ ⟨k, hk⟩) hn (hq _), ih (Nat.le_of_succ_le hk)]
    have he : (∃ l : Fin 32, l.val < k + 1 ∧ κ l = n) ↔ (∃ l : Fin 32, l.val < k ∧ κ l = n) ∨ κ ⟨k, hk⟩ = n := by
      constructor
      · rintro ⟨l, hl, h⟩
        by_cases he : l.val = k
        · exact .inr (by rw [← h]; congr 1; exact Fin.ext he.symm)
        · exact .inl ⟨l, by omega, h⟩
      · rintro (⟨l, hl, h⟩ | h)
        · exact ⟨l, by omega, h⟩
        · exact ⟨⟨k, hk⟩, Nat.lt_succ_self k, h⟩
    by_cases h1 : ∃ l : Fin 32, l.val < k ∧ κ l = n
    · rw [decide_eq_true h1, decide_eq_true (he.mpr (.inl h1))]; cases decide (κ ⟨k, hk⟩ = n) <;> rfl
    · by_cases h2 : κ ⟨k, hk⟩ = n
      · rw [decide_eq_false h1, decide_eq_true h2, decide_eq_true (he.mpr (.inr h2))]; rfl
      · rw [decide_eq_false h1, decide_eq_false h2, decide_eq_false fun h => (he.mp h).elim h1 h2]; rfl

open Classical in
/-- An entry before the softmax. -/
theorem entries_apply (i : grid1.Coords) (q : IVec S2048x32 32) (p : IVec S256x32 32) (a : FVec Ideal S256x32 .f32)
    (r : Fin 256) (m n : Fin 2048) (hn : n.val = (i 1).val * 256 + r.val) (π κ : Fin 32 → Fin 2048)
    (hπ : Function.Injective π) (hp : ∀ k, p (ix2 r k) = BitVec.ofNat 32 (π k).val)
    (hq : ∀ l, q (ix2 m l) = BitVec.ofNat 32 (κ l).val) :
    entries i q p a (ix2 r m)
      = if h : (∃ k, π k = m) ∧ ∃ k, κ k = n then a (ix2 r (Classical.choose h.1)) else neg := by
  have h1 := looked_apply i q r m n hn κ hq 32 le_rfl
  obtain ⟨h2, h3⟩ := laid_apply p a r π hπ hp m 32 le_rfl
  pointwise [entries]
  rw [h1]
  by_cases hk : ∃ k, κ k = n
  · rw [show (decide (∃ l : Fin 32, l.val < 32 ∧ κ l = n)) = true from
      decide_eq_true (hk.imp fun l h => ⟨l.isLt, h⟩)]
    by_cases hm : ∃ k, π k = m
    · rw [dif_pos ⟨hm, hk⟩]
      exact h2 _ (Fin.isLt _) (Classical.choose_spec hm)
    · rw [dif_neg fun h => hm h.1]
      exact h3 fun l _ h => hm ⟨l, h⟩
  · rw [dif_neg fun h => hk h.2, show (decide (∃ l : Fin 32, l.val < 32 ∧ κ l = n)) = false from
      decide_eq_false fun ⟨l, _, h⟩ => hk ⟨l, h⟩]
    rfl

/-- The exponential of an entry less the greatest entry of its row. -/
theorem powers_apply (d : FVec Ideal S256x2048 .f32) (r : Fin 256) (m : Fin 2048) :
    powers d (ix2 r m)
      = Ideal.exp (d (ix2 r m) - Finset.univ.fold max (Ideal.ofBits .f32 0xFF800000#32) fun l : Fin 2048 => d (ix2 r l)) := by
  pointwise [powers]

/-- An entry over the sum of its row. -/
theorem shares_apply (d : FVec Ideal S256x2048 .f32) (r : Fin 256) (m : Fin 2048) :
    shares d (ix2 r m) = Ideal.div (d (ix2 r m)) (∑ l : Fin 2048, d (ix2 r l)) := by
  pointwise [shares]

/-- The block written: the merged rows through the first matrix, without their negative part, plus the rows through the second. -/
theorem sum_apply (s : FVec Ideal S256x2048 .f32) (x : Vec Ideal S1x2048x128 .f32) (w w' : Vec Ideal S128x128 .f32)
    (y : Vec Ideal S1x256x128 .f32) (r : Fin 256) (o : Fin 128) :
    k1_pay1 (first s x w) (k1_pay28 y) w' (ix3 0 r o)
      = max (∑ d : Fin 128, (∑ m : Fin 2048, s (ix2 r m) * x (ix3 0 m d)) * w (ix2 d o)) 0
        + ∑ d : Fin 128, y (ix3 0 r d) * w' (ix2 d o) := by
  pointwise [k1_pay1, k1_pay28, first]

end Cert.Block1

end
-- ==== Proof.Picks.lean ====
/-
  Taking the greatest entries of a list one after the other. Each round picks the least position that holds the greatest
  entry and then puts the bottom element there. When no entry is the bottom element, round `k` picks the position that a
  stable sort by descending entries puts at place `k`.
-/
module

public import Idealize.ShloMosaic.PureOps
public import Idealize.ShloMosaic.Lib.SortFacts

@[expose] public section

namespace Cert.Picks

open Idealize.ShloMosaic

variable {n : ℕ} {α : Type} [LinearOrder α]

/-- Position `i` comes before position `j`: its entry is greater, or the entries are equal and `i` is less than `j`. -/
def Ahead (f : Fin n → α) (i j : Fin n) : Prop := f j < f i ∨ (f i = f j ∧ i < j)

/-- Coming before is transitive. -/
theorem Ahead.trans {f : Fin n → α} {i j k : Fin n} (h : Ahead f i j) (h' : Ahead f j k) : Ahead f i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- The comparator of the descending sort. -/
abbrev greater (f : Fin n → α) : Fin n → Fin n → Bool := fun i j => decide (f j < f i)

/-- Inserting a position that is less than all the others keeps a list in order. -/
theorem pairwise_insert (f : Fin n → α) (a : Fin n) (l : List (Fin n)) (ha : ∀ b ∈ l, a < b) (hl : l.Pairwise (Ahead f)) :
    (insertBefore (greater f) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl (of_decide_eq_true h)
      · exact hl.1 c hc'
    · rename_i h
      have hab : Ahead f a b := by
        have hle : ¬ f a < f b := fun h' => h (decide_eq_true h')
        rcases lt_or_eq_of_le (not_lt.mp hle) with h' | h'
        · exact .inl h'
        · exact .inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an ascending list of positions is in order. -/
theorem pairwise_stable (f : Fin n → α) (l : List (Fin n)) (hl : l.Pairwise (· < ·)) :
    (stableSort (greater f) l).Pairwise (Ahead f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- The sorted places are in order. -/
theorem ahead_sortedFrom (f : Fin n → α) (i j : Fin n) (hij : i < j) :
    Ahead f (sortedFrom (greater f) i) (sortedFrom (greater f) j) := by
  have hp := List.pairwise_iff_get.mp (pairwise_stable f (List.finRange n) (List.pairwise_lt_finRange n))
  exact hp (i.cast (length_sortPositions n _).symm) (j.cast (length_sortPositions n _).symm) hij

/-- `i` is the least position of the greatest entry. -/
def IsFirstMax (f : Fin n → α) (i : Fin n) : Prop := ∀ j, f j ≤ f i ∧ (f j = f i → i ≤ j)

/-- There is at most one least position of the greatest entry. -/
theorem IsFirstMax.unique {f : Fin n → α} {i j : Fin n} (hi : IsFirstMax f i) (hj : IsFirstMax f j) : i = j := by
  have h : f i = f j := le_antisymm (hj i).1 (hi j).1
  exact le_antisymm ((hi j).2 h.symm) ((hj i).2 h)

/-- A list that is not empty has such a position. -/
theorem exists_firstMax [NeZero n] (f : Fin n → α) : ∃ i, IsFirstMax f i := by
  obtain ⟨i, -, hi⟩ := Finset.exists_max_image Finset.univ f ⟨0, Finset.mem_univ _⟩
  have hne : (Finset.univ.filter fun j => f j = f i).Nonempty := ⟨i, by simp⟩
  have hmem := Finset.min'_mem _ hne
  rw [Finset.mem_filter] at hmem
  have hmin : ∀ j, f j = f i → (Finset.univ.filter fun j => f j = f i).min' hne ≤ j := fun j h => Finset.min'_le _ j (by simp [h])
  refine ⟨_, fun j => ⟨?_, fun h => hmin j (h.trans hmem.2)⟩⟩
  · rw [hmem.2]; exact hi j (Finset.mem_univ _)

/-- The least position of the greatest entry. -/
noncomputable def firstMax [NeZero n] (f : Fin n → α) : Fin n := Classical.choose (exists_firstMax f)

/-- It is the least position of the greatest entry. -/
theorem isFirstMax [NeZero n] (f : Fin n → α) : IsFirstMax f (firstMax f) := Classical.choose_spec (exists_firstMax f)

/-- Any least position of the greatest entry is this one. -/
theorem firstMax_eq [NeZero n] {f : Fin n → α} {i : Fin n} (h : IsFirstMax f i) : firstMax f = i := (isFirstMax f).unique h

variable [OrderBot α] [NeZero n]

/-- The list with its first greatest entry replaced by the bottom element. -/
noncomputable def strike (f : Fin n → α) : Fin n → α := fun j => if j = firstMax f then ⊥ else f j

/-- The list that round `k` meets. -/
noncomputable def left (f : Fin n → α) : ℕ → Fin n → α
  | 0 => f
  | k + 1 => strike (left f k)

/-- The position that round `k` picks. -/
noncomputable def pick (f : Fin n → α) (k : ℕ) : Fin n := firstMax (left f k)

/-- Before round `k` the entries at the first `k` sorted places are struck and the others are as they were; round `k`
    picks the sorted place `k`. -/
theorem left_eq (f : Fin n → α) (hf : ∀ i, f i ≠ ⊥) (k : ℕ) (hk : k < n) :
    (∀ p : Fin n, left f k (sortedFrom (greater f) p) = if p.val < k then ⊥ else f (sortedFrom (greater f) p))
      ∧ pick f k = sortedFrom (greater f) ⟨k, hk⟩ := by
  have step : ∀ (k : ℕ) (hk : k < n),
      (∀ p : Fin n, left f k (sortedFrom (greater f) p) = if p.val < k then ⊥ else f (sortedFrom (greater f) p)) →
      pick f k = sortedFrom (greater f) ⟨k, hk⟩ := by
    intro k hk h
    refine firstMax_eq fun j => ?_
    obtain ⟨p, rfl⟩ := sortedFrom_surjective (greater f) j
    rw [h p, h ⟨k, hk⟩, if_neg (lt_irrefl k)]
    by_cases hp : p.val < k
    · rw [if_pos hp]
      exact ⟨bot_le, fun e => absurd e.symm (hf _)⟩
    · rw [if_neg hp]
      rcases eq_or_lt_of_le (not_lt.mp hp) with he | hlt
      · have : p = ⟨k, hk⟩ := Fin.ext he.symm
        rw [this]
        exact ⟨le_rfl, fun _ => le_rfl⟩
      · rcases ahead_sortedFrom f ⟨k, hk⟩ p hlt with h' | ⟨h', hl⟩
        · exact ⟨h'.le, fun e => absurd e h'.ne⟩
        · exact ⟨h'.ge, fun _ => hl.le⟩
  induction k with
  | zero =>
    have h0 : ∀ p : Fin n, left f 0 (sortedFrom (greater f) p) = if p.val < 0 then ⊥ else f (sortedFrom (greater f) p) :=
      fun p => by rw [if_neg (Nat.not_lt_zero _)]; rfl
    exact ⟨h0, step 0 hk h0⟩
  | succ k ih =>
    obtain ⟨h, hp⟩ := ih (by omega)
    have hs : ∀ p : Fin n, left f (k + 1) (sortedFrom (greater f) p)
        = if p.val < k + 1 then ⊥ else f (sortedFrom (greater f) p) := by
      intro p
      show (if sortedFrom (greater f) p = pick f k then ⊥ else left f k (sortedFrom (greater f) p)) = _
      rw [hp, h p]
      by_cases he : p.val = k
      · rw [if_pos (by congr 1; exact Fin.ext he), if_pos (by omega)]
      · rw [if_neg fun e => he (congrArg Fin.val (sortedFrom_injective _ e))]
        by_cases hlt : p.val < k
        · rw [if_pos hlt, if_pos (by omega)]
        · rw [if_neg hlt, if_neg (by omega)]
    exact ⟨hs, step (k + 1) hk hs⟩

/-- Round `k` picks the position that the stable descending sort puts at place `k`. -/
theorem pick_eq_sorted (f : Fin n → α) (hf : ∀ i, f i ≠ ⊥) (k : Fin n) : pick f k.val = sortedFrom (greater f) k :=
  (left_eq f hf k.val k.isLt).2

/-- Different rounds pick different positions. -/
theorem pick_injective (f : Fin n → α) (hf : ∀ i, f i ≠ ⊥) {k l : ℕ} (hk : k < n) (hl : l < n) (h : pick f k = pick f l) :
    k = l := by
  have h' := (pick_eq_sorted f hf ⟨k, hk⟩).symm.trans (h.trans (pick_eq_sorted f hf ⟨l, hl⟩))
  exact congrArg Fin.val (sortedFrom_injective _ h')

end Cert.Picks

end
-- ==== Proof.Rounds.lean ====
/-
  One round of the first kernel body's selection, on a block of 256 rows of 2048 entries: the column of every row's least
  position of a greatest entry, and the block with that entry replaced by -∞.
-/
module

public import proofs.«01_k».proof.Proof.Gen.KernelIdeal
public import proofs.«01_k».proof.Proof.Picks
public import Idealize.ShloMosaic.Lib.Pointwise
public import Idealize.ShloMosaic.Lib.SortNet.Extract
public import Idealize.ShloMosaic.Lib.WordCmp

@[expose] public section

set_option maxRecDepth 16384

noncomputable section

namespace Cert.Rounds

open Idealize.ShloMosaic Cert.KernelIdeal Cert.KernelIdeal.Gen Cert.Picks

/-- The position of an entry in its row. -/
def lanes : IVec S256x2048 32 := iota .tc S256x2048 32 [1] iota_S256x2048_d1_w32

/-- Every row's greatest entry. -/
def tops (w : FVec Ideal S256x2048 .f32) : FVec Ideal S256x1 .f32 :=
  shapeCast S256x1 (multiReduction .maximumf [1] S256 w 0xFF800000#32 reduces_S256x2048_S256 (.inl rfl) rfl)
    shapeCasts_S256_S256x1

/-- Every row's positions that hold a greatest entry, the others replaced by 2048. -/
def hits (w : FVec Ideal S256x2048 .f32) : IVec S256x2048 32 :=
  select (cmpf .oeq w (broadcastTo S256x2048 (tops w) broadcasts_S256x1_S256x2048)) lanes (broadcast S256x2048 2048#32)

/-- Every row's least position of a greatest entry. -/
def chosen (w : FVec Ideal S256x2048 .f32) : IVec S256x1 32 :=
  shapeCast S256x1 (multiReductionI .minsi [1] S256 (hits w) 2147483647#32 reduces_S256x2048_S256 rfl) shapeCasts_S256_S256x1

/-- The block with those entries replaced by -∞. -/
def struck (w : FVec Ideal S256x2048 .f32) : FVec Ideal S256x2048 .f32 :=
  select (cmpi .eq lanes (broadcastTo S256x2048 (chosen w) broadcasts_S256x1_S256x2048))
    (broadcast S256x2048 (Scalar.ofBits .f32 0xFF800000#32)) w

/-- The block that round `k` meets. -/
def blockAt (w : FVec Ideal S256x2048 .f32) : ℕ → FVec Ideal S256x2048 .f32
  | 0 => w
  | k + 1 => struck (blockAt w k)

/-- A row of a block. -/
abbrev row (w : FVec Ideal S256x2048 .f32) (r : Fin 256) : Fin 2048 → EReal := fun m => w (ix2 r m)

/-- The word of -∞. -/
theorem ofBits_bot : Ideal.ofBits .f32 0xFF800000#32 = ⊥ := by
  simp [Ideal.ofBits, Ideal.ieee]

/-- The greatest entry of a row. -/
theorem tops_apply (w : FVec Ideal S256x2048 .f32) (r : Fin 256) :
    tops w (ix2 r 0) = row w r (firstMax (row w r)) := by
  pointwise [tops]
  rw [ofBits_bot]
  refine le_antisymm ?_ ?_
  · rw [Finset.fold_max_le]
    exact ⟨bot_le, fun m _ => (isFirstMax (row w r) m).1⟩
  · rw [Finset.le_fold_max]
    exact .inr ⟨_, Finset.mem_univ _, le_rfl⟩

/-- The positions of a row's greatest entry, and 2048 elsewhere. -/
theorem hits_apply (w : FVec Ideal S256x2048 .f32) (r : Fin 256) (m : Fin 2048) :
    hits w (ix2 r m) = if row w r m = row w r (firstMax (row w r)) then BitVec.ofNat 32 m.val else 2048#32 := by
  have h := tops_apply w r
  pointwise [hits, lanes]
  rw [h]

/-- A small number's word read as a signed integer is the number. -/
theorem toInt_small (a : ℕ) (h : a < 2 ^ 31) : (BitVec.ofNat 32 a).toInt = a := by
  simp only [BitVec.toInt_ofNat', Int.bmod_def]; omega

/-- The position that a round picks in a row: the least position of the greatest entry. -/
theorem chosen_apply (w : FVec Ideal S256x2048 .f32) (r : Fin 256) :
    chosen w (ix2 r 0) = BitVec.ofNat 32 (firstMax (row w r)).val := by
  have h := hits_apply w r
  pointwise [chosen]
  have hlt : (firstMax (row w r)).val < 2048 := (firstMax (row w r)).isLt
  refine BitVec.eq_of_toInt_eq ?_
  rw [← Finset.fold_hom (op' := min) (m := BitVec.toInt) (SortNet.toInt_minsi)]
  refine le_antisymm ?_ ?_
  · rw [Finset.fold_min_le]
    exact .inr ⟨firstMax (row w r), Finset.mem_univ _, by rw [h, if_pos rfl]⟩
  · rw [Finset.le_fold_min]
    refine ⟨by rw [toInt_small _ (by omega), show (2147483647#32).toInt = 2147483647 by decide]; omega, fun m _ => ?_⟩
    rw [h]
    split
    · rename_i he
      rw [toInt_small _ (by omega), toInt_small _ (by omega)]
      exact_mod_cast (isFirstMax (row w r) m).2 he
    · rw [toInt_small _ (by omega), toInt_small 2048 (by omega)]
      omega

/-- A round strikes out the picked entry of every row. -/
theorem row_struck (w : FVec Ideal S256x2048 .f32) (r : Fin 256) : row (struck w) r = strike (row w r) := by
  have h := chosen_apply w r
  funext m
  show struck w (ix2 r m) = _
  pointwise [struck, lanes]
  rw [h, ofBits_bot]
  rw [WordCmp.cmpi_eq_ofNat (by omega) (by have := (firstMax (row w r)).isLt; omega)]
  by_cases hm : m = firstMax (row w r)
  · rw [strike, if_pos hm, hm]; simp [Scalar.select]
  · rw [strike, if_neg hm]; simp [Scalar.select, Fin.val_inj, hm]

/-- Round `k` of a block meets, in every row, what round `k` of that row meets. -/
theorem row_blockAt (w : FVec Ideal S256x2048 .f32) (k : ℕ) (r : Fin 256) : row (blockAt w k) r = left (row w r) k := by
  induction k with
  | zero => rfl
  | succ k ih => rw [blockAt, row_struck, ih, left]

/-- Round `k` chooses, in every row, the position that round `k` of that row picks. -/
theorem chosen_blockAt (w : FVec Ideal S256x2048 .f32) (k : ℕ) (r : Fin 256) :
    chosen (blockAt w k) (ix2 r 0) = BitVec.ofNat 32 (pick (row w r) k).val := by
  rw [chosen_apply, row_blockAt, pick]

end Cert.Rounds

end
-- ==== Proof.Block0.lean ====
/-
  What the first kernel body stores for one block of 256 rows: the columns of its 32 selection rounds, and the attention
  weights.
-/
module

public import proofs.«01_k».proof.Proof.Gen.KernelIdeal.Frame
public import proofs.«01_k».proof.Proof.Rounds
public import Idealize.ShloMosaic.Lib.Pipeline.ValueKit

@[expose] public section

set_option maxRecDepth 16384

noncomputable section

namespace Cert.Block0

open Idealize.ShloMosaic Cert.KernelIdeal Cert.KernelIdeal.Gen Cert.Picks Cert.Rounds

variable (x0 : Vec Ideal S1x256x128 .f32) (x1 : Vec Ideal S1x128x2048 .f32) (x2 : Vec Ideal S128x32 .f32)
  (x3 : Vec Ideal S1x32 .f32)

/-- The columns of the 32 rounds side by side. -/
def columns (w : FVec Ideal S256x2048 .f32) : IVec S256x32 32 :=
  concatenate S256x32 1 (List.ofFn fun k : Fin 32 => (⟨S256x1, chosen (blockAt w k.val)⟩ : (s : Shape) × (s.Idx → BitVec 32)))
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- The body stores the 32 columns. -/
theorem out0_4_eq : out0_4 x0 x1 x2 x3
    = View.canon [⟨r0_2, k0_pay1 (columns (k0_pay4 (View.ld x0 r0_0) (View.ld x1 r0_1)))⟩] := rfl

/-- Column `k` holds, in every row, the position that round `k` of that row picks. -/
theorem columns_apply (w : FVec Ideal S256x2048 .f32) (r : Fin 256) (k : Fin 32) :
    columns w (ix2 r k) = BitVec.ofNat 32 (pick (row w r) k.val).val := by
  refine (concatenate_ofFn_unit_apply (1 : Fin S256x32.rank) (fun k : Fin 32 => chosen (blockAt w k.val)) _ rfl rfl
    (ix2 r k) k rfl (ix2 r 0) fun b hb => ?_).trans (chosen_blockAt w k.val r)
  match b with
  | 0 => rfl
  | 1 => exact absurd rfl hb

/-- The products of a block's scaled rows with all scaled rows. -/
theorem products_apply (v0 : Vec Ideal S1x256x128 .f32) (v2 : Vec Ideal S1x128x2048 .f32) (r : Fin 256) (m : Fin 2048) :
    k0_pay4 v0 v2 (ix2 r m)
      = ∑ d : Fin 128, Ideal.div (v0 (ix3 0 r d)) (Ideal.sqrt (∑ d' : Fin 128, v0 (ix3 0 r d') * v0 (ix3 0 r d')))
          * Ideal.div (v2 (ix3 0 d m)) (Ideal.sqrt (∑ d' : Fin 128, v2 (ix3 0 d' m) * v2 (ix3 0 d' m))) := by
  pointwise [k0_pay4, k0_pay3]

/-- The attention weights of a block. -/
theorem weights_apply (v0 : Vec Ideal S1x256x128 .f32) (v2 : Vec Ideal S128x32 .f32) (v3 : Vec Ideal S1x32 .f32) (r : Fin 256) (k : Fin 32) :
    k0_pay2 (k0_pay3 v0) v2 v3 (ix3 0 r k) = (∑ d : Fin 128, v0 (ix3 0 r d) * v2 (ix2 d k)) + v3 (ix2 0 k) := by
  pointwise [k0_pay2, k0_pay3]

end Cert.Block0

end
-- ==== Proof.Spec.lean ====
/-
  The mathematics of the result: rows scaled to unit length, their products, the 32 positions picked for each row, the
  attention weights at the positions that two rows pick of each other, the softmax over each row, and the two products that
  are added up.
-/
module

public import proofs.«01_k».proof.Proof.Picks
public import Idealize.ShloMosaic.PureOps.Ideal

@[expose] public section

noncomputable section

namespace Cert.Spec

open Idealize.ShloMosaic Cert.Picks

/-- The stand-in for -∞ at the positions that are left out of the softmax. -/
abbrev neg : EReal := Ideal.ofBits .f32 0xCE6E6B28#32

variable (X : Fin 4 → Fin 2048 → Fin 128 → EReal) (A : Fin 32 → Fin 128 → EReal) (c : Fin 32 → EReal)
  (M O : Fin 128 → Fin 128 → EReal)

/-- The length of a row. -/
def len (b : Fin 4) (n : Fin 2048) : EReal := Ideal.sqrt (∑ d, X b n d * X b n d)

/-- A row scaled to unit length. -/
def unit (b : Fin 4) (n : Fin 2048) (d : Fin 128) : EReal := Ideal.div (X b n d) (len X b n)

/-- The product of two scaled rows. -/
def sim (b : Fin 4) (n m : Fin 2048) : EReal := ∑ d, unit X b n d * unit X b m d

/-- The position that round `k` picks for row `n`. -/
def idx (b : Fin 4) (n : Fin 2048) (k : Fin 32) : Fin 2048 := pick (sim X b n) k.val

/-- The attention weight of round `k` of row `n`. -/
def attn (b : Fin 4) (n : Fin 2048) (k : Fin 32) : EReal := (∑ d, X b n d * A k d) + c k

open Classical in
/-- The entry at row `n` and column `m` before the softmax: the weight of the round in which row `n` picks `m`, if row `m`
    picks `n` too. -/
def logit (b : Fin 4) (n m : Fin 2048) : EReal :=
  if h : (∃ k, idx X b n k = m) ∧ ∃ k, idx X b m k = n then attn X A c b n (Classical.choose h.1) else neg

/-- The greatest entry of a row. -/
def top (b : Fin 4) (n : Fin 2048) : EReal := Finset.univ.fold max ⊥ fun m => logit X A c b n m

/-- The exponential of an entry less the greatest entry of its row. -/
def expo (b : Fin 4) (n m : Fin 2048) : EReal := Ideal.exp (logit X A c b n m - top X A c b n)

/-- The softmax of a row. -/
def soft (b : Fin 4) (n m : Fin 2048) : EReal := Ideal.div (expo X A c b n m) (∑ l, expo X A c b n l)

/-- The rows weighted by the softmax. -/
def merged (b : Fin 4) (n : Fin 2048) (d : Fin 128) : EReal := ∑ m, soft X A c b n m * X b m d

/-- The result. -/
def out (b : Fin 4) (n : Fin 2048) (o : Fin 128) : EReal :=
  max (∑ d, merged X A c b n d * M o d) 0 + ∑ d, X b n d * O o d

end Cert.Spec

end
-- ==== Proof.Arrays0.lean ====
/-
  What the two arrays that the first kernel writes hold: for every row the 32 positions picked, and the 32 attention weights.
-/
module

public import proofs.«01_k».proof.Proof.Block0
public import proofs.«01_k».proof.Proof.Spec

@[expose] public section

set_option maxRecDepth 16384

noncomputable section

namespace Cert.Arrays0

open Idealize.ShloMosaic Idealize.ShloMosaic.TcCoe Idealize.SL.Sem Cert.KernelIdeal Cert.KernelIdeal.Gen Cert.Picks Cert.Rounds Cert.Block0
open Idealize.ShloMosaic.Pipeline (Dat)

/-- The windows' index maps. -/
theorem idx : ∀ t : Fin cfg0.N,
    win0_0.index t = ![(grid0.coords t 0).val, (grid0.coords t 1).val, 0] ∧ win0_1.index t = ![(grid0.coords t 0).val, 0, 0]
      ∧ win0_2.index t = ![0, 0] ∧ win0_3.index t = ![0, 0]
      ∧ win0_4.index t = ![(grid0.coords t 0).val, (grid0.coords t 1).val, 0]
      ∧ win0_5.index t = ![(grid0.coords t 0).val, (grid0.coords t 1).val, 0] :=
  (by decide +kernel : ∀ t : Fin grid0.N, _)

/-- The batch of a grid point. -/
def bat (t : Fin cfg0.N) : Fin 4 := grid0.coords t 0

/-- The row of the array at which row `r` of a grid point's block lies. -/
def row (t : Fin cfg0.N) (r : Fin 256) : Fin 2048 :=
  ⟨(grid0.coords t 1).val * 256 + r.val, by have h : (grid0.coords t 1).val < 8 := (grid0.coords t 1).isLt; omega⟩

variable (V : (c : Dev nD) → (b : Ref sig .tc) → Buf (Elt Ideal) ((c : Thread nD τ).loc b)) (c : Dev nD) (t : Fin cfg0.N)

/-- Where an entry of the first written block lies in its array. -/
theorem emb4 (r : Fin 256) (k : Fin 32) :
    ((cfg0.win 4).blk t).view.emb (ix3 0 r k) = ix3 (bat t) (row t r) k := by
  blk_ext [idx t, bat, row]

/-- Where an entry of the second written block lies in its array. -/
theorem emb5 (r : Fin 256) (k : Fin 32) :
    ((cfg0.win 5).blk t).view.emb (ix3 0 r k) = ix3 (bat t) (row t r) k := by
  blk_ext [idx t, bat, row]

/-- The block of rows read at a grid point, from the array of the rows. -/
theorem read0 (r : Fin 256) (d : Fin 128) :
    iblk0 V c 0 t (ix3 0 r d) = V c main_arg0 (ix3 (bat t) (row t r) d) := by
  blk_ext [iblk0, idx t, bat, row]

/-- The transposed rows of a batch read at a grid point, from their array. -/
theorem read1 (d : Fin 128) (n : Fin 2048) :
    iblk0 V c 1 t (ix3 0 d n) = V c main_v0 (ix3 (bat t) d n) := by
  blk_ext [iblk0, idx t, bat, row]

/-- The attention matrix read at a grid point is the whole array. -/
theorem read2 (d : Fin 128) (k : Fin 32) : iblk0 V c 2 t (ix2 d k) = V c main_v1 (ix2 d k) := by
  blk_ext [iblk0, idx t]

/-- The attention bias read at a grid point is the whole array. -/
theorem read3 (k : Fin 32) : iblk0 V c 3 t (ix2 0 k) = V c main_v2 (ix2 0 k) := by
  blk_ext [iblk0, idx t]

variable (X : Fin 4 → Fin 2048 → Fin 128 → EReal) (A : Fin 32 → Fin 128 → EReal) (e : Fin 32 → EReal)

/-- The positions picked, as words. -/
def idxArr : IVec S4x2048x32 32 := fun y => BitVec.ofNat 32 (Spec.idx X (y 0) (y 1) (y 2)).val

/-- The attention weights. -/
def attnArr : FVec Ideal S4x2048x32 .f32 := fun y => Spec.attn X A e (y 0) (y 1) (y 2)

/-- An index whose leading axis has one entry is given by its two other coordinates. -/
theorem three {a b : Nat} (y : (⟨3, ![1, a, b]⟩ : Shape).Idx) : ∃ (r : Fin a) (k : Fin b), y = ix3 (0 : Fin 1) r k := by
  refine ⟨y 1, y 2, ?_⟩
  funext j
  match j with
  | ⟨0, _⟩ => exact Subsingleton.elim (α := Fin 1) _ _
  | ⟨1, _⟩ => rfl
  | ⟨2, _⟩ => rfl

/-- The positions written, with the leading axis of one entry. -/
theorem pay1_apply (w : IVec S256x32 32) (r : Fin 256) (k : Fin 32) : k0_pay1 w (ix3 0 r k) = w (ix2 r k) := by
  pointwise [k0_pay1]

/-- The first array that the first kernel writes holds the positions picked. -/
theorem arr4 (h0 : ∀ b n d, V c main_arg0 (ix3 b n d) = X b n d) (h1 : ∀ b d n, V c main_v0 (ix3 b d n) = X b n d) :
    (dat0 V c).arrAt 4 cfg0.N = idxArr X := by
  refine (dat0 V c).arrAt_eq_of_covers 4 _ (by decide +kernel) fun t hf y => ?_
  blk_simp
  rw [after0_4, out0_4_eq]
  frame_out
  obtain ⟨r, k, rfl⟩ : ∃ (r : Fin 256) (k : Fin 32), y = ix3 (0 : Fin 1) r k := three y
  have hw : Rounds.row (k0_pay4 (iblk0 V c 0 t) (iblk0 V c 1 t)) r = Spec.sim X (bat t) (row t r) := by
    funext m
    refine (products_apply (iblk0 V c 0 t) (iblk0 V c 1 t) r m).trans ?_
    simp only [read0, read1, h0, h1]
    rfl
  refine (pay1_apply _ r k).trans ((columns_apply _ r k).trans ?_)
  refine Eq.trans ?_ (congrArg (idxArr X) (emb4 t r k)).symm
  rw [hw]
  rfl

/-- The second array that the first kernel writes holds the attention weights. -/
theorem arr5 (h0 : ∀ b n d, V c main_arg0 (ix3 b n d) = X b n d) (h1 : ∀ d k, V c main_v1 (ix2 d k) = A k d)
    (h2 : ∀ k, V c main_v2 (ix2 0 k) = e k) :
    (dat0 V c).arrAt 5 cfg0.N = attnArr X A e := by
  refine (dat0 V c).arrAt_eq_of_covers 5 _ (by decide +kernel) fun t hf y => ?_
  blk_simp
  rw [after0_5]
  frame_out
  obtain ⟨r, k, rfl⟩ : ∃ (r : Fin 256) (k : Fin 32), y = ix3 (0 : Fin 1) r k := three y
  refine (weights_apply (iblk0 V c 0 t) (iblk0 V c 2 t) (iblk0 V c 3 t) r k).trans ?_
  refine Eq.trans ?_ (congrArg (attnArr X A e) (emb5 t r k)).symm
  simp only [read0, read2, read3, h0, h1, h2]
  rfl

end Cert.Arrays0

end
-- ==== Proof.Arrays1.lean ====
/-
  What the array that the second kernel writes holds: the result, as the mathematics writes it.
-/
module

public import proofs.«01_k».proof.Proof.Block1
public import proofs.«01_k».proof.Proof.Arrays0

@[expose] public section

set_option maxRecDepth 16384

noncomputable section

namespace Cert.Arrays1

open Idealize.ShloMosaic Idealize.ShloMosaic.TcCoe Idealize.SL.Sem Cert.KernelIdeal Cert.KernelIdeal.Gen Cert.Picks Cert.Block1
open Idealize.ShloMosaic.Pipeline (Dat)
open Cert.Arrays0 (idxArr attnArr three)

/-- The windows' index maps. -/
theorem idx : ∀ t : Fin cfg1.N,
    win1_0.index t = ![(grid1.coords t 0).val, 0, 0] ∧ win1_1.index t = ![(grid1.coords t 0).val, (grid1.coords t 1).val, 0]
      ∧ win1_2.index t = ![(grid1.coords t 0).val, (grid1.coords t 1).val, 0] ∧ win1_3.index t = ![(grid1.coords t 0).val, 0, 0]
      ∧ win1_4.index t = ![(grid1.coords t 0).val, (grid1.coords t 1).val, 0]
      ∧ win1_5.index t = ![0, 0] ∧ win1_6.index t = ![0, 0]
      ∧ win1_7.index t = ![(grid1.coords t 0).val, (grid1.coords t 1).val, 0] :=
  (by decide +kernel : ∀ t : Fin grid1.N, _)

/-- The batch of a grid point. -/
def bat (t : Fin cfg1.N) : Fin 4 := grid1.coords t 0

/-- The row of the array at which row `r` of a grid point's block lies. -/
def row (t : Fin cfg1.N) (r : Fin 256) : Fin 2048 :=
  ⟨(grid1.coords t 1).val * 256 + r.val, by have h : (grid1.coords t 1).val < 8 := (grid1.coords t 1).isLt; omega⟩

variable (V : (c : Dev nD) → (b : Ref sig .tc) → Buf (Elt Ideal) ((c : Thread nD τ).loc b)) (c : Dev nD) (t : Fin cfg1.N)

/-- Where an entry of the result's block lies in the array. -/
theorem emb7 (r : Fin 256) (o : Fin 128) :
    ((cfg1.win 7).blk t).view.emb (ix3 0 r o) = ix3 (bat t) (row t r) o := by
  blk_ext [idx t, bat, row]

/-- The block of all positions of a batch. -/
theorem read0 (m : Fin 2048) (k : Fin 32) :
    iblk1 V c 0 t (ix3 0 m k) = V c main_v5_0 (ix3 (bat t) m k) := by
  blk_ext [iblk1, idx t, bat, row]

/-- The block of the rows' positions. -/
theorem read1 (r : Fin 256) (k : Fin 32) :
    iblk1 V c 1 t (ix3 0 r k) = V c main_v5_0 (ix3 (bat t) (row t r) k) := by
  blk_ext [iblk1, idx t, bat, row]

/-- The block of the rows' weights. -/
theorem read2 (r : Fin 256) (k : Fin 32) :
    iblk1 V c 2 t (ix3 0 r k) = V c main_v5_1 (ix3 (bat t) (row t r) k) := by
  blk_ext [iblk1, idx t, bat, row]

/-- The block of all rows of a batch. -/
theorem read3 (m : Fin 2048) (d : Fin 128) :
    iblk1 V c 3 t (ix3 0 m d) = V c main_arg0 (ix3 (bat t) m d) := by
  blk_ext [iblk1, idx t, bat, row]

/-- The block of rows. -/
theorem read4 (r : Fin 256) (d : Fin 128) :
    iblk1 V c 4 t (ix3 0 r d) = V c main_arg0 (ix3 (bat t) (row t r) d) := by
  blk_ext [iblk1, idx t, bat, row]

/-- The first matrix. -/
theorem read5 (d o : Fin 128) : iblk1 V c 5 t (ix2 d o) = V c main_v3 (ix2 d o) := by
  blk_ext [iblk1, idx t]

/-- The second matrix. -/
theorem read6 (d o : Fin 128) : iblk1 V c 6 t (ix2 d o) = V c main_v4 (ix2 d o) := by
  blk_ext [iblk1, idx t]

variable (X : Fin 4 → Fin 2048 → Fin 128 → EReal) (A : Fin 32 → Fin 128 → EReal) (e : Fin 32 → EReal) (M O : Fin 128 → Fin 128 → EReal)

/-- The result. -/
def outArr : FVec Ideal S4x2048x128 .f32 := fun y => Spec.out X A e M O (y 0) (y 1) (y 2)

/-- The block of all positions without its leading axis. -/
theorem pay2_apply (w : Vec Ideal S1x2048x32 .i32) (m : Fin 2048) (k : Fin 32) : k1_pay2 w (ix2 m k) = w (ix3 0 m k) := by
  pointwise [k1_pay2]

/-- The block of the rows' positions without its leading axis. -/
theorem pay3_apply (w : Vec Ideal S1x256x32 .i32) (r : Fin 256) (k : Fin 32) : k1_pay3 w (ix2 r k) = w (ix3 0 r k) := by
  pointwise [k1_pay3]

/-- The block of the rows' weights without its leading axis. -/
theorem pay4_apply (w : Vec Ideal S1x256x32 .f32) (r : Fin 256) (k : Fin 32) : k1_pay4 w (ix2 r k) = w (ix3 0 r k) := by
  pointwise [k1_pay4]

/-- The array that the second kernel writes holds the result, where the positions that a row picks differ. -/
theorem arr7 (hinj : ∀ b n, Function.Injective (Spec.idx X b n)) (h50 : V c main_v5_0 = idxArr X) (h51 : V c main_v5_1 = attnArr X A e)
    (h0 : ∀ b n d, V c main_arg0 (ix3 b n d) = X b n d) (h3 : ∀ d o, V c main_v3 (ix2 d o) = M o d)
    (h4 : ∀ d o, V c main_v4 (ix2 d o) = O o d) :
    (dat1 V c).arrAt 7 cfg1.N = outArr X A e M O := by
  refine (dat1 V c).arrAt_eq_of_covers 7 _ (by decide +kernel) fun t hf y => ?_
  blk_simp
  rw [after1_7, out1_7_eq]
  frame_out
  obtain ⟨r, o, rfl⟩ : ∃ (r : Fin 256) (o : Fin 128), y = ix3 (0 : Fin 1) r o := three y
  refine (sum_apply _ (iblk1 V c 3 t) (iblk1 V c 5 t) (iblk1 V c 6 t) (iblk1 V c 4 t) r o).trans ?_
  refine Eq.trans ?_ (congrArg (outArr X A e M O) (emb7 t r o)).symm
  have hd : ∀ m, entries (grid1.coords t) (k1_pay2 (iblk1 V c 0 t)) (k1_pay3 (iblk1 V c 1 t)) (k1_pay4 (iblk1 V c 2 t)) (ix2 r m)
      = Spec.logit X A e (bat t) (row t r) m := by
    intro m
    refine (entries_apply (grid1.coords t) _ _ _ r m (row t r) rfl (Spec.idx X (bat t) (row t r)) (Spec.idx X (bat t) m) (hinj _ _)
      (fun k => ?_) (fun l => ?_)).trans ?_
    · rw [pay3_apply, read1, h50]; rfl
    · rw [pay2_apply, read0, h50]; rfl
    · unfold Spec.logit
      split_ifs with h
      · rw [pay4_apply, read2, h51]; rfl
      · rfl
  have hp : ∀ m, powers (entries (grid1.coords t) (k1_pay2 (iblk1 V c 0 t)) (k1_pay3 (iblk1 V c 1 t)) (k1_pay4 (iblk1 V c 2 t))) (ix2 r m)
      = Spec.expo X A e (bat t) (row t r) m := by
    intro m
    rw [powers_apply]
    simp only [hd, Rounds.ofBits_bot]
    rfl
  simp only [shares_apply, hp, read3, read4, read5, read6, h0, h3, h4]
  rfl

end Cert.Arrays1

end
-- ==== Proof.RunIdeal.lean ====
/-
  The run of the whole kernel on extended reals: the result's array ends at what the mathematics writes, the arguments unchanged.
-/
module

public import proofs.«01_k».proof.Proof.Arrays1
public import Idealize.ShloMosaic.Lib.Claim

@[expose] public section

set_option maxRecDepth 16384

noncomputable section

namespace Cert.RunIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (l : Loc nD τ sig) → Buf (Elt Ideal) l) (ρ : Dev nD → PrngReg)

-- the launch rule's implicit arguments are found by unifying its conclusion, which unfolds plain definitions in types
set_option backward.isDefEq.respectTransparency.types false in
/-- The run ends with the result's array at its contents after the last region and the arguments unchanged. -/
theorem launched : θ_run defs (onTc (τ := τ) (main (F := Ideal))) ⟨m, fun _ => 0, ρ⟩ (fun r => ∀ c : Dev nD,
      r.2.mem ((c.tc : Thread nD τ).loc main_v6) = W3 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

variable (c : Dev nD)

/-- The rows, by batch. -/
def rows : Fin 4 → Fin 2048 → Fin 128 → EReal := fun b n d => m ((c : Thread nD τ).loc main_arg0) (ix3 b n d)
/-- The attention matrix. -/
def att : Fin 32 → Fin 128 → EReal := fun k d => m ((c : Thread nD τ).loc main_arg1) (ix2 k d)
/-- The attention bias. -/
def bias : Fin 32 → EReal := fun k => m ((c : Thread nD τ).loc main_arg2) (ix1 k)
/-- The matrix of the merged rows. -/
def mat : Fin 128 → Fin 128 → EReal := fun o d => m ((c : Thread nD τ).loc main_arg3) (ix2 o d)
/-- The matrix of the rows themselves. -/
def mat' : Fin 128 → Fin 128 → EReal := fun o d => m ((c : Thread nD τ).loc main_arg4) (ix2 o d)

/-- The rows as the first region finds them. -/
theorem entry_arg0 (b : Fin 4) (n : Fin 2048) (d : Fin 128) : V1 m ρ c main_arg0 (ix3 b n d) = rows m c b n d := by
  exact congrFun (W1_args m ρ c main_arg0 (by decide)) _

/-- The transposed rows as the first region finds them. -/
theorem entry_v0 (b : Fin 4) (d : Fin 128) (n : Fin 2048) : V1 m ρ c main_v0 (ix3 b d n) = rows m c b n d := by
  show StableHlo.after hostOps0 (W0 m ρ c) (Proc.devRef .tc main_v0) (ix3 b d n) = _
  entry_read
  pointwise
  rfl

/-- The transposed attention matrix as the first region finds it. -/
theorem entry_v1 (d : Fin 128) (k : Fin 32) : V1 m ρ c main_v1 (ix2 d k) = att m c k d := by
  show StableHlo.after hostOps0 (W0 m ρ c) (Proc.devRef .tc main_v1) (ix2 d k) = _
  entry_read
  pointwise
  rfl

/-- The attention bias as the first region finds it. -/
theorem entry_v2 (k : Fin 32) : V1 m ρ c main_v2 (ix2 0 k) = bias m c k := by
  show StableHlo.after hostOps0 (W0 m ρ c) (Proc.devRef .tc main_v2) (ix2 0 k) = _
  entry_read
  pointwise
  rfl

/-- The transposed matrix of the merged rows. -/
theorem entry_v3 (d o : Fin 128) : V1 m ρ c main_v3 (ix2 d o) = mat m c o d := by
  show StableHlo.after hostOps0 (W0 m ρ c) (Proc.devRef .tc main_v3) (ix2 d o) = _
  entry_read
  pointwise
  rfl

/-- The transposed matrix of the rows themselves. -/
theorem entry_v4 (d o : Fin 128) : V1 m ρ c main_v4 (ix2 d o) = mat' m c o d := by
  show StableHlo.after hostOps0 (W0 m ρ c) (Proc.devRef .tc main_v4) (ix2 d o) = _
  entry_read
  pointwise
  rfl

/-- After the last region the result's array holds what the mathematics writes, where the positions that a row picks differ. -/
theorem result (hinj : ∀ b n, Function.Injective (Spec.idx (rows m c) b n)) :
    W3 m ρ c main_v6 = Arrays1.outArr (rows m c) (att m c) (bias m c) (mat m c) (mat' m c) := by
  refine (W3_arr m ρ c 7).trans (Arrays1.arr7 (V2 m ρ) c _ _ _ _ _ hinj ?_ ?_ ?_ ?_ ?_)
  · exact (W2_arr m ρ c 4).trans (Arrays0.arr4 (V1 m ρ) c _ (entry_arg0 m ρ c) (entry_v0 m ρ c))
  · exact (W2_arr m ρ c 5).trans (Arrays0.arr5 (V1 m ρ) c _ _ _ (entry_arg0 m ρ c) (entry_v1 m ρ c) (entry_v2 m ρ c))
  · intro b n d
    exact congrFun (W2_args m ρ c main_arg0 (by decide)) _
  · intro d o
    exact (congrFun (W2_of m ρ c main_v3 (by decide)) _).trans (entry_v3 m ρ c d o)
  · intro d o
    exact (congrFun (W2_of m ρ c main_v4 (by decide)) _).trans (entry_v4 m ρ c d o)

end Cert.RunIdeal

end
-- ==== Proof.Ref0.lean ====
/-
  The reference's result as a composition of named steps.
-/
module

public import proofs.«01_k».proof.Proof.Gen.ReferenceIdeal.Run
public import proofs.«01_k».proof.Proof.Spec
public import Idealize.ShloMosaic.Lib.Routing.OpsSet
public import Idealize.ShloMosaic.Lib.Tactic

@[expose] public section

set_option maxRecDepth 16384

noncomputable section

namespace Cert.Ref

open Cert.ReferenceIdeal Cert.ReferenceIdeal.Gen Idealize.ShloMosaic Idealize.ShloMosaic.TcCoe Idealize.SL.Sem

/-- Rows scaled to unit length. -/
def scaled (x : FVec Ideal S4x2048x128 .f32) : FVec Ideal S4x2048x128 .f32 :=
  Host.divf x (broadcastInDim S4x2048x128 ![0, 1, 2] bcast_S4x2048x1_S4x2048x128_0_1_2
    (Host.sqrt (broadcastInDim S4x2048x1 ![0, 1] bcast_S4x2048_S4x2048x1_0_1
      (Host.reduceAdd (mulf x x) (constant S_ .f32 0x00000000#32) reducesTo_S4x2048x128_S4x2048_d2 h_S_))))

/-- Products of rows. -/
def products (y : FVec Ideal S4x2048x128 .f32) : FVec Ideal S4x2048x2048 .f32 :=
  Host.dotGeneral dot_S4x2048x128_S4x2048x128_S4x2048x2048_2_2_1_1_0_0 none y y

/-- The positions of the 32 greatest entries of each row. -/
def greatest (w : FVec Ideal S4x2048x2048 .f32) : IVec S4x2048x32 32 :=
  (Host.topK S4x2048x32 2 (FloatOps.cmpfTotal (F := Ideal) (φ := .f32) .gt) w sliceFits_S4x2048x2048_S4x2048x32).2

/-- The batch of each position, as a word. -/
def batches : IVec S4x1x1 32 :=
  select (cmpi .slt (broadcastInDim S4x1x1 ![0] bcast_S4_S4x1x1_0 (iotaInDim S4 32 0))
      (broadcastInDim S4x1x1 ![] bcast_S_S4x1x1 (constantI S_ 32 0#32)))
    (addi (broadcastInDim S4x1x1 ![0] bcast_S4_S4x1x1_0 (iotaInDim S4 32 0))
      (broadcastInDim S4x1x1 ![] bcast_S_S4x1x1 (constantI S_ 32 4#32)))
    (broadcastInDim S4x1x1 ![0] bcast_S4_S4x1x1_0 (iotaInDim S4 32 0))

/-- The row of each position, as a word. -/
def numbers : IVec S1x2048x1 32 :=
  select (cmpi .slt (broadcastInDim S1x2048x1 ![1] bcast_S2048_S1x2048x1_1 (iotaInDim S2048 32 0))
      (broadcastInDim S1x2048x1 ![] bcast_S_S1x2048x1 (constantI S_ 32 0#32)))
    (addi (broadcastInDim S1x2048x1 ![1] bcast_S2048_S1x2048x1_1 (iotaInDim S2048 32 0))
      (broadcastInDim S1x2048x1 ![] bcast_S_S1x2048x1 (constantI S_ 32 2048#32)))
    (broadcastInDim S1x2048x1 ![1] bcast_S2048_S1x2048x1_1 (iotaInDim S2048 32 0))

/-- The positions with the ones below zero counted from the end. -/
def wrapped (p : IVec S4x2048x32 32) : IVec S4x2048x32 32 :=
  select (cmpi .slt p (broadcastInDim S4x2048x32 ![] bcast_S_S4x2048x32 (constantI S_ 32 0#32)))
    (addi p (broadcastInDim S4x2048x32 ![] bcast_S_S4x2048x32 (constantI S_ 32 2048#32))) p

/-- Batch, row and position side by side: where each update goes. -/
def places (p : IVec S4x2048x32 32) : IVec S4x2048x32x3 32 :=
  concatenate S4x2048x32x3 3
    [⟨S4x2048x32x1, broadcastInDim S4x2048x32x1 ![0, 1, 2] bcast_S4x2048x32_S4x2048x32x1_0_1_2
        (broadcastInDim S4x2048x32 ![0, 1, 2] bcast_S4x1x1_S4x2048x32_0_1_2 batches)⟩,
      ⟨S4x2048x32x1, broadcastInDim S4x2048x32x1 ![0, 1, 2] bcast_S4x2048x32_S4x2048x32x1_0_1_2
        (broadcastInDim S4x2048x32 ![0, 1, 2] bcast_S1x2048x1_S4x2048x32_0_1_2 numbers)⟩,
      ⟨S4x2048x32x1, broadcastInDim S4x2048x32x1 ![0, 1, 2] bcast_S4x2048x32_S4x2048x32x1_0_1_2 (wrapped p)⟩]
    concatenates_S4x2048x32x1_S4x2048x32x1_S4x2048x32x1_S4x2048x32x3_d3

/-- Zeros, with the updates put at their places. -/
def spread (q : IVec S4x2048x32x3 32) (u : FVec Ideal S4x2048x32 .f32) : FVec Ideal S4x2048x2048 .f32 :=
  Host.scatter scatter_S4x2048x2048_S4x2048x32x3_S4x2048x32_n_012_012_3 (fun _ b => b)
    (broadcastInDim S4x2048x2048 ![] bcast_S_S4x2048x2048 (constant (F := Ideal) S_ .f32 0x00000000#32)) q u

/-- One at each place, zero elsewhere. -/
def marks (q : IVec S4x2048x32x3 32) : FVec Ideal S4x2048x2048 .f32 :=
  spread q (broadcastInDim S4x2048x32 ![] bcast_S_S4x2048x32 (constant (F := Ideal) S_ .f32 0x3F800000#32))

/-- The marks that two rows put at each other. -/
def paired (s : FVec Ideal S4x2048x2048 .f32) : FVec Ideal S4x2048x2048 .f32 :=
  mulf s (transpose S4x2048x2048 [0, 2, 1] s transposes_S4x2048x2048_S4x2048x2048_0_2_1)

/-- The attention weights. -/
def weights (x : FVec Ideal S4x2048x128 .f32) (a : FVec Ideal S32x128 .f32) (e : FVec Ideal S32 .f32) : FVec Ideal S4x2048x32 .f32 :=
  addf (Host.dotGeneral dot_S4x2048x128_S128x32_S4x2048x32_2_0_01_1_n_n none x
      (transpose S128x32 [1, 0] a transposes_S32x128_S128x32_1_0))
    (broadcastInDim S4x2048x32 ![0, 1, 2] bcast_S1x1x32_S4x2048x32_0_1_2 (broadcastInDim S1x1x32 ![2] bcast_S32_S1x1x32_2 e))

/-- The weights at the marks, and the stand-in for -∞ elsewhere. -/
def masked (s q : FVec Ideal S4x2048x2048 .f32) : FVec Ideal S4x2048x2048 .f32 :=
  addf (mulf s q)
    (mulf (broadcastInDim S4x2048x2048 ![] bcast_S_S4x2048x2048 (constant (F := Ideal) S_ .f32 0xCE6E6B28#32))
      (subf (broadcastInDim S4x2048x2048 ![] bcast_S_S4x2048x2048 (constant (F := Ideal) S_ .f32 0x3F800000#32)) q))

/-- The greatest entry of each row. -/
def tops (d : FVec Ideal S4x2048x2048 .f32) : FVec Ideal S4x2048 .f32 :=
  Host.reduce FloatOps.maximumf d (constant (F := Ideal) S_ .f32 0xFF800000#32) reducesTo_S4x2048x2048_S4x2048_d2 h_S_

/-- -∞ for each row. -/
def lows : FVec Ideal S4x2048 .f32 :=
  broadcastInDim S4x2048 ![] bcast_S_S4x2048 (constant (F := Ideal) S_ .f32 0xFF800000#32)

/-- A number for each row, along the row. -/
def along (l : FVec Ideal S4x2048 .f32) : FVec Ideal S4x2048x2048 .f32 :=
  broadcastInDim S4x2048x2048 ![0, 1, 2] bcast_S4x2048x1_S4x2048x2048_0_1_2
    (broadcastInDim S4x2048x1 ![0, 1] bcast_S4x2048_S4x2048x1_0_1 l)

/-- The exponentials of the entries less the greatest entry of their row. -/
def powers (d : FVec Ideal S4x2048x2048 .f32) : FVec Ideal S4x2048x2048 .f32 :=
  Host.exp (subf d (along (maximumf lows (tops d))))

/-- Each row divided by its sum. -/
def shares (e : FVec Ideal S4x2048x2048 .f32) : FVec Ideal S4x2048x2048 .f32 :=
  Host.divf e (broadcastInDim S4x2048x2048 ![0, 1, 2] bcast_S4x2048x1_S4x2048x2048_0_1_2
    (broadcastInDim S4x2048x1 ![0, 1] bcast_S4x2048_S4x2048x1_0_1
      (Host.reduceAdd e (constant (F := Ideal) S_ .f32 0x00000000#32) reducesTo_S4x2048x2048_S4x2048_d2 h_S_)))

/-- The weighted rows times the first matrix, cut off below zero, plus the rows times the second. -/
def final (s : FVec Ideal S4x2048x2048 .f32) (x : FVec Ideal S4x2048x128 .f32) (w w' : FVec Ideal S128x128 .f32) :
    FVec Ideal S4x2048x128 .f32 :=
  addf (maximumf
      (Host.dotGeneral dot_S4x2048x128_S128x128_S4x2048x128_2_0_01_1_n_n none
        (Host.dotGeneral dot_S4x2048x2048_S4x2048x128_S4x2048x128_2_1_1_2_0_0 none s x)
        (transpose S128x128 [1, 0] w transposes_S128x128_S128x128_1_0))
      (broadcastInDim S4x2048x128 ![] bcast_S_S4x2048x128 (constant (F := Ideal) S_ .f32 0x00000000#32)))
    (Host.dotGeneral dot_S4x2048x128_S128x128_S4x2048x128_2_0_01_1_n_n none x
      (transpose S128x128 [1, 0] w' transposes_S128x128_S128x128_1_0))

/-- The steps composed. -/
def whole (x : FVec Ideal S4x2048x128 .f32) (a : FVec Ideal S32x128 .f32) (e : FVec Ideal S32 .f32) (w w' : FVec Ideal S128x128 .f32) :
    FVec Ideal S4x2048x128 .f32 :=
  final (shares (powers (masked (spread (places (greatest (products (scaled x)))) (weights x a e))
    (paired (marks (places (greatest (products (scaled x)))))))) ) x w w'

/-- The reference's result is the steps composed. -/
theorem res_eq (m : (ℓ : Loc nD τ sig) → Buf (Elt Ideal) ℓ) (c : Dev nD) :
    Value.res_main_v85 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Ref

end
-- ==== Proof.Ref1.lean ====
/-
  The steps of the reference, entry by entry.
-/
module

public import proofs.«01_k».proof.Proof.Ref0
public import proofs.«01_k».proof.Proof.Rounds
public import Idealize.ShloMosaic.Lib.Pointwise
public import Idealize.ShloMosaic.Lib.WordCmp

@[expose] public section

set_option maxRecDepth 16384

noncomputable section

namespace Cert.Ref

open Cert.ReferenceIdeal Cert.ReferenceIdeal.Gen Idealize.ShloMosaic Idealize.ShloMosaic.TcCoe Idealize.SL.Sem Cert.Picks

/-- A row scaled to unit length. -/
theorem scaled_apply (x : FVec Ideal S4x2048x128 .f32) (b : Fin 4) (n : Fin 2048) (d : Fin 128) :
    scaled x (ix3 b n d) = Spec.unit (fun b n d => x (ix3 b n d)) b n d := by
  pointwise [scaled]
  rfl

/-- A product of two rows. -/
theorem products_apply (y : FVec Ideal S4x2048x128 .f32) (b : Fin 4) (n m : Fin 2048) :
    products y (ix3 b n m) = ∑ d : Fin 128, y (ix3 b n d) * y (ix3 b m d) := by
  pointwise [products]

/-- A batch, as a word. -/
theorem batches_apply (b : Fin 4) : batches (ix3 b 0 0) = BitVec.ofNat 32 b.val := by
  pointwise [batches]
  exact Routing.wrap_of_lt _ _ (by rw [BitVec.toNat_ofNat]; omega)

/-- A row, as a word. -/
theorem numbers_apply (n : Fin 2048) : numbers (ix3 0 n 0) = BitVec.ofNat 32 n.val := by
  pointwise [numbers]
  exact Routing.wrap_of_lt _ _ (by rw [BitVec.toNat_ofNat]; omega)

/-- A position that is not below zero stays as it is. -/
theorem wrapped_apply (p : IVec S4x2048x32 32) (b : Fin 4) (n : Fin 2048) (k : Fin 32) (κ : Fin 2048)
    (h : p (ix3 b n k) = BitVec.ofNat 32 κ.val) : wrapped p (ix3 b n k) = BitVec.ofNat 32 κ.val := by
  pointwise [wrapped]
  rw [h]
  exact Routing.wrap_of_lt _ _ (by rw [BitVec.toNat_ofNat]; omega)

/-- The first word of a place. -/
theorem places_apply0 (p : IVec S4x2048x32 32) (b : Fin 4) (n : Fin 2048) (k : Fin 32) :
    places p (ix4 b n k 0) = BitVec.ofNat 32 b.val := by
  refine Eq.trans ?_ (batches_apply b)
  pointwise [places]

/-- The second word of a place. -/
theorem places_apply1 (p : IVec S4x2048x32 32) (b : Fin 4) (n : Fin 2048) (k : Fin 32) :
    places p (ix4 b n k 1) = BitVec.ofNat 32 n.val := by
  refine Eq.trans ?_ (numbers_apply n)
  pointwise [places]

/-- The third word of a place. -/
theorem places_apply2 (p : IVec S4x2048x32 32) (b : Fin 4) (n : Fin 2048) (k : Fin 32) :
    places p (ix4 b n k 2) = wrapped p (ix3 b n k) := by
  pointwise [places]

/-- The attention weight of a row and a round. -/
theorem weights_apply (x : FVec Ideal S4x2048x128 .f32) (a : FVec Ideal S32x128 .f32) (e : FVec Ideal S32 .f32)
    (b : Fin 4) (n : Fin 2048) (k : Fin 32) :
    weights x a e (ix3 b n k) = (∑ d : Fin 128, x (ix3 b n d) * a (ix2 k d)) + e (ix1 k) := by
  pointwise [weights]

/-- A mark is paired with its mirror image. -/
theorem paired_apply (s : FVec Ideal S4x2048x2048 .f32) (b : Fin 4) (n m : Fin 2048) :
    paired s (ix3 b n m) = s (ix3 b n m) * s (ix3 b m n) := by
  pointwise [paired]

/-- A masked weight. -/
theorem masked_apply (s q : FVec Ideal S4x2048x2048 .f32) (b : Fin 4) (n m : Fin 2048) :
    masked s q (ix3 b n m) = s (ix3 b n m) * q (ix3 b n m)
      + Spec.neg * (Ideal.ofBits .f32 0x3F800000#32 - q (ix3 b n m)) := by
  pointwise [masked]

/-- The greatest entry of a row. -/
theorem tops_apply (d : FVec Ideal S4x2048x2048 .f32) (b : Fin 4) (n : Fin 2048) :
    tops d (ix2 b n) = Finset.univ.fold max (Ideal.ofBits .f32 0xFF800000#32) fun l : Fin 2048 => d (ix3 b n l) := by
  pointwise [tops]

/-- -∞ at a row. -/
theorem lows_apply (b : Fin 4) (n : Fin 2048) : lows (ix2 b n) = ⊥ := Rounds.ofBits_bot

/-- A row's number at an entry of the row. -/
theorem along_apply (l : FVec Ideal S4x2048 .f32) (b : Fin 4) (n m : Fin 2048) : along l (ix3 b n m) = l (ix2 b n) := by
  pointwise [along]

/-- The greater of two numbers for each row. -/
theorem greater_apply (l q : FVec Ideal S4x2048 .f32) (b : Fin 4) (n : Fin 2048) :
    maximumf l q (ix2 b n) = max (l (ix2 b n)) (q (ix2 b n)) := by
  pointwise

/-- The exponential of a difference. -/
theorem expo_apply (d q : FVec Ideal S4x2048x2048 .f32) (b : Fin 4) (n m : Fin 2048) :
    Host.exp (subf d q) (ix3 b n m) = Ideal.exp (d (ix3 b n m) - q (ix3 b n m)) := by
  pointwise

/-- An entry's exponential. -/
theorem powers_apply (d : FVec Ideal S4x2048x2048 .f32) (b : Fin 4) (n m : Fin 2048) :
    powers d (ix3 b n m) = Ideal.exp (d (ix3 b n m) - Finset.univ.fold max ⊥ fun l : Fin 2048 => d (ix3 b n l)) := by
  have h : along (maximumf lows (tops d)) (ix3 b n m) = Finset.univ.fold max ⊥ fun l : Fin 2048 => d (ix3 b n l) := by
    refine (along_apply _ b n m).trans ((greater_apply _ _ b n).trans ((congrArg₂ max (lows_apply b n) (tops_apply d b n)).trans ?_))
    rw [Rounds.ofBits_bot]
    exact max_eq_right bot_le
  exact (expo_apply d _ b n m).trans (congrArg (fun z => Ideal.exp (d (ix3 b n m) - z)) h)

/-- An entry's share of its row's sum. -/
theorem shares_apply (e : FVec Ideal S4x2048x2048 .f32) (b : Fin 4) (n m : Fin 2048) :
    shares e (ix3 b n m) = Ideal.div (e (ix3 b n m)) (∑ l : Fin 2048, e (ix3 b n l)) := by
  pointwise [shares]

/-- The last step. -/
theorem final_apply (s : FVec Ideal S4x2048x2048 .f32) (x : FVec Ideal S4x2048x128 .f32) (w w' : FVec Ideal S128x128 .f32)
    (b : Fin 4) (n : Fin 2048) (o : Fin 128) :
    final s x w w' (ix3 b n o)
      = max (∑ d : Fin 128, (∑ m : Fin 2048, s (ix3 b n m) * x (ix3 b m d)) * w (ix2 o d)) 0
        + ∑ d : Fin 128, x (ix3 b n d) * w' (ix2 o d) := by
  pointwise [final]

end Cert.Ref

end
-- ==== Proof.Ref2.lean ====
/-
  The reference's choice of positions, and where its scatters put their updates.
-/
module

public import proofs.«01_k».proof.Proof.Ref1

@[expose] public section

set_option maxRecDepth 16384

noncomputable section

namespace Cert.Ref

open Cert.ReferenceIdeal Cert.ReferenceIdeal.Gen Idealize.ShloMosaic Idealize.ShloMosaic.TcCoe Idealize.SL.Sem Cert.Picks

/-- On extended reals the total order's "greater" is the order's. -/
theorem total_gt (x y : EReal) :
    (FloatOps.cmpfTotal (F := Ideal) (φ := .f32) .gt x y == 1#1) = decide (y < x) := by
  show (BitVec.ofBool (decide (x > y)) == 1#1) = decide (y < x)
  by_cases h : y < x
  · simp [h]
  · simp [h]

/-- The second component of a sort of two arrays along their last axis: the entry carried to place `k` of a row. -/
theorem carried {α β : Type} (cmp : α × β → α × β → BitVec 1) (x : S4x2048x2048.Idx → α) (y : S4x2048x2048.Idx → β)
    (b : Fin 4) (n k : Fin 2048) :
    (Host.sort2 S4x2048x2048 2 cmp x y).2 (ix3 b n k)
      = y (ix3 b n (sortedFrom (fun m m' : Fin 2048 => cmp (x (ix3 b n m), y (ix3 b n m)) (x (ix3 b n m'), y (ix3 b n m')) == 1#1) k)) := by
  have ha : ∀ m : Fin 2048, Shape.Idx.along (ix3 b n k : S4x2048x2048.Idx) 2 m = ix3 b n m := by
    intro m
    funext a
    match a with
    | ⟨0, _⟩ => rfl
    | ⟨1, _⟩ => rfl
    | ⟨2, _⟩ => rfl
  have hd : 2 < S4x2048x2048.rank := by decide
  unfold Host.sort2
  rw [dif_pos hd]
  refine (congrArg y (ha _)).trans ?_
  have hc : (fun m m' : Fin 2048 => cmp
        (x (Shape.Idx.along (ix3 b n k : S4x2048x2048.Idx) 2 m), y (Shape.Idx.along (ix3 b n k : S4x2048x2048.Idx) 2 m))
        (x (Shape.Idx.along (ix3 b n k : S4x2048x2048.Idx) 2 m'), y (Shape.Idx.along (ix3 b n k : S4x2048x2048.Idx) 2 m')) == 1#1)
      = fun m m' : Fin 2048 => cmp (x (ix3 b n m), y (ix3 b n m)) (x (ix3 b n m'), y (ix3 b n m')) == 1#1 := by
    funext m m'
    rw [ha, ha]
  exact congrArg (fun f : Fin 2048 → Fin 2048 → Bool => y (ix3 b n (sortedFrom f k))) hc

/-- The position words before the sort. -/
def tags : IVec S4x2048x2048 32 :=
  fun i => if hd : 2 < S4x2048x2048.rank then iotaInDim S4x2048x2048 32 ⟨2, hd⟩ i else 0#32

/-- An entry's position word is its position. -/
theorem tags_apply (b : Fin 4) (n m : Fin 2048) : tags (ix3 b n m) = BitVec.ofNat 32 m.val := by
  unfold tags
  rw [dif_pos (by decide : 2 < S4x2048x2048.rank)]
  rfl

/-- The position chosen in round `k` is the word carried to place `k`. -/
theorem greatest_eq (w : FVec Ideal S4x2048x2048 .f32) (b : Fin 4) (n : Fin 2048) (k : Fin 32) (k' : Fin 2048) (hk : k'.val = k.val) :
    greatest w (ix3 b n k) = (Host.sort2 S4x2048x2048 2
        (fun (l r : EReal × BitVec 32) => FloatOps.cmpfTotal (F := Ideal) (φ := .f32) .gt l.1 r.1) w tags).2 (ix3 b n k') := by
  unfold greatest Host.topK extractStridedSlice
  have hi : (fun a : Fin S4x2048x2048.rank => (⟨0 + ((ix3 b n k : S4x2048x32.Idx) (a.cast sliceFits_S4x2048x2048_S4x2048x32.1.symm)).val,
      Nat.lt_of_lt_of_le (Nat.add_lt_add_left ((ix3 b n k : S4x2048x32.Idx) _).isLt _) (sliceFits_S4x2048x2048_S4x2048x32.2 a)⟩
        : Fin (S4x2048x2048.size a))) = ix3 b n k' := by
    funext a
    refine Fin.ext ?_
    match a with
    | ⟨0, _⟩ => exact Nat.zero_add _
    | ⟨1, _⟩ => exact Nat.zero_add _
    | ⟨2, _⟩ => exact (Nat.zero_add _).trans hk.symm
  exact congrArg (Host.sort2 S4x2048x2048 2
        (fun (l r : EReal × BitVec 32) => FloatOps.cmpfTotal (F := Ideal) (φ := .f32) .gt l.1 r.1) w tags).2 hi

/-- The positions that the reference chooses for a row without -∞. -/
theorem greatest_apply (w : FVec Ideal S4x2048x2048 .f32) (b : Fin 4) (n : Fin 2048) (k : Fin 32) (hw : ∀ m, w (ix3 b n m) ≠ ⊥) :
    greatest w (ix3 b n k) = BitVec.ofNat 32 (pick (fun m => w (ix3 b n m)) k.val).val := by
  have hk := pick_eq_sorted (fun m => w (ix3 b n m)) hw (⟨k.val, by omega⟩ : Fin 2048)
  have hc : (fun m m' : Fin 2048 => FloatOps.cmpfTotal (F := Ideal) (φ := .f32) .gt (w (ix3 b n m)) (w (ix3 b n m')) == 1#1)
      = greater fun m => w (ix3 b n m) := funext fun m => funext fun m' => total_gt _ _
  refine (greatest_eq w b n k ⟨k.val, by omega⟩ rfl).trans ((carried _ _ _ b n _).trans ((tags_apply b n _).trans ?_))
  refine congrArg (fun m : Fin 2048 => BitVec.ofNat 32 m.val) (Eq.trans ?_ hk.symm)
  exact congrArg (fun f => sortedFrom f (⟨k.val, by omega⟩ : Fin 2048)) hc

/-- An update lands at the entry that its place's three words name. -/
theorem lands (q : IVec S4x2048x32x3 32) (b b' : Fin 4) (n n' : Fin 2048) (k : Fin 32) (m : Fin 2048) :
    scatter_S4x2048x2048_S4x2048x32x3_S4x2048x32_n_012_012_3.resultIdx? (ix3 b n k) q = some (ix3 b' n' m)
      ↔ (q (ix4 b n k 0)).toInt = b'.val ∧ (q (ix4 b n k 1)).toInt = n'.val ∧ (q (ix4 b n k 2)).toInt = m.val := by
  have hi : ∀ i : Fin 3, scatter_S4x2048x2048_S4x2048x32x3_S4x2048x32_n_012_012_3.siIdx (ix3 b n k) i = ix4 b n k i := by
    intro i
    funext a
    match a with
    | ⟨0, _⟩ => rfl
    | ⟨1, _⟩ => rfl
    | ⟨2, _⟩ => rfl
    | ⟨3, _⟩ => rfl
  have h0 : scatter_S4x2048x2048_S4x2048x32x3_S4x2048x32_n_012_012_3.start (ix3 b n k) q 0 = (q (ix4 b n k 0)).toInt :=
    congrArg (fun j => (q j).toInt) (hi 0)
  have h1 : scatter_S4x2048x2048_S4x2048x32x3_S4x2048x32_n_012_012_3.start (ix3 b n k) q 1 = (q (ix4 b n k 1)).toInt :=
    congrArg (fun j => (q j).toInt) (hi 1)
  have h2 : scatter_S4x2048x2048_S4x2048x32x3_S4x2048x32_n_012_012_3.start (ix3 b n k) q 2 = (q (ix4 b n k 2)).toInt :=
    congrArg (fun j => (q j).toInt) (hi 2)
  have w0 : scatter_S4x2048x2048_S4x2048x32x3_S4x2048x32_n_012_012_3.window (ix3 b n k) 0 = 0 := rfl
  have w1 : scatter_S4x2048x2048_S4x2048x32x3_S4x2048x32_n_012_012_3.window (ix3 b n k) 1 = 0 := rfl
  have w2 : scatter_S4x2048x2048_S4x2048x32x3_S4x2048x32_n_012_012_3.window (ix3 b n k) 2 = 0 := rfl
  rw [Routing.resultIdx?_eq_some]
  constructor
  · intro h
    have e0 := h 0
    have e1 := h 1
    have e2 := h 2
    rw [h0, w0] at e0
    rw [h1, w1] at e1
    rw [h2, w2] at e2
    exact ⟨by simpa using e0, by simpa using e1, by simpa using e2⟩
  · rintro ⟨e0, e1, e2⟩ a
    match a with
    | ⟨0, _⟩ => exact (congrArg₂ (fun x (y : ℕ) => x + (y : Int)) h0 w0).trans (by simpa using e0)
    | ⟨1, _⟩ => exact (congrArg₂ (fun x (y : ℕ) => x + (y : Int)) h1 w1).trans (by simpa using e1)
    | ⟨2, _⟩ => exact (congrArg₂ (fun x (y : ℕ) => x + (y : Int)) h2 w2).trans (by simpa using e2)

/-- A word below 2048 read signed. -/
theorem toInt_word (n : ℕ) (h : n < 2048) : (BitVec.ofNat 32 n).toInt = n := by
  simp only [BitVec.toInt_ofNat', Int.bmod_def]; omega

variable (p : IVec S4x2048x32 32) (π : Fin 4 → Fin 2048 → Fin 32 → Fin 2048)
  (hp : ∀ b n k, p (ix3 b n k) = BitVec.ofNat 32 (π b n k).val) (u : FVec Ideal S4x2048x32 .f32)

include hp in
/-- The update of a row and a round lands in that row, at the position of the round. -/
theorem lands_places (b b' : Fin 4) (n n' m : Fin 2048) (k : Fin 32) :
    scatter_S4x2048x2048_S4x2048x32x3_S4x2048x32_n_012_012_3.resultIdx? (ix3 b n k) (places p) = some (ix3 b' n' m)
      ↔ b = b' ∧ n = n' ∧ π b n k = m := by
  rw [lands, places_apply0, places_apply1, places_apply2, wrapped_apply p b n k _ (hp b n k),
    toInt_word _ (by omega), toInt_word _ n.isLt, toInt_word _ (π b n k).isLt]
  simp only [Fin.ext_iff]
  omega

include hp in
/-- Where a row has a round with that position, and only one, the round's update is put there. -/
theorem spread_hit (hπ : ∀ b n, Function.Injective (π b n)) (b : Fin 4) (n : Fin 2048) (k : Fin 32) :
    spread (places p) u (ix3 b n (π b n k)) = u (ix3 b n k) := by
  refine Routing.scatter_set_hit _ _ _ _ _ _ (fun j hj => ?_) (ix3 b n k) ((lands_places p π hp b b n n _ k).2 ⟨rfl, rfl, rfl⟩)
  obtain ⟨b', n', k', rfl⟩ : ∃ (b' : Fin 4) (n' : Fin 2048) (k' : Fin 32), j = ix3 b' n' k' := by
    refine ⟨j 0, j 1, j 2, funext fun a => ?_⟩
    match a with
    | ⟨0, _⟩ => rfl
    | ⟨1, _⟩ => rfl
    | ⟨2, _⟩ => rfl
  obtain ⟨rfl, rfl, h⟩ := (lands_places p π hp b' b n' n _ k').1 hj
  rw [hπ _ _ h]

include hp in
/-- Where a row has no round with that position, the zero stays. -/
theorem spread_miss (b : Fin 4) (n m : Fin 2048) (h : ∀ k, π b n k ≠ m) :
    spread (places p) u (ix3 b n m) = 0 := by
  refine (Routing.scatter_set_miss _ _ _ _ _ (fun j hj => ?_)).trans ?_
  · obtain ⟨b', n', k', rfl⟩ : ∃ (b' : Fin 4) (n' : Fin 2048) (k' : Fin 32), j = ix3 b' n' k' := by
      refine ⟨j 0, j 1, j 2, funext fun a => ?_⟩
      match a with
      | ⟨0, _⟩ => rfl
      | ⟨1, _⟩ => rfl
      | ⟨2, _⟩ => rfl
    obtain ⟨rfl, rfl, e⟩ := (lands_places p π hp b' b n' n _ k').1 hj
    exact h _ e
  · pointwise

/-- The pattern of one, as an extended real. -/
theorem one_bits : Ideal.ofBits .f32 0x3F800000#32 = 1 := Ideal.ofBits_one_f32

/-- The update of every mark is one. -/
theorem ones_apply (b : Fin 4) (n : Fin 2048) (k : Fin 32) :
    (broadcastInDim S4x2048x32 ![] bcast_S_S4x2048x32 (constant (F := Ideal) S_ .f32 0x3F800000#32) : FVec Ideal S4x2048x32 .f32) (ix3 b n k) = 1 :=
  one_bits

include hp in
open Classical in
/-- The marks are one at the positions of a row's rounds and zero elsewhere. -/
theorem marks_apply (hπ : ∀ b n, Function.Injective (π b n)) (b : Fin 4) (n m : Fin 2048) :
    marks (places p) (ix3 b n m) = if ∃ k, π b n k = m then 1 else 0 := by
  split_ifs with h
  · obtain ⟨k, rfl⟩ := h
    exact (spread_hit p π hp _ hπ b n k).trans (ones_apply b n k)
  · exact spread_miss p π hp _ b n m fun k e => h ⟨k, e⟩

include hp in
open Classical in
/-- The masked weights: the weight of the round in which row `n` picks `m`, where row `m` picks `n` too. -/
theorem masked_places (hπ : ∀ b n, Function.Injective (π b n)) (b : Fin 4) (n m : Fin 2048) :
    masked (spread (places p) u) (paired (marks (places p))) (ix3 b n m)
      = if h : (∃ k, π b n k = m) ∧ ∃ k, π b m k = n then u (ix3 b n (Classical.choose h.1)) else Spec.neg := by
  have h1 : (1 : EReal) - 1 = 0 := by rw [← EReal.coe_one, ← EReal.coe_sub]; simp
  rw [masked_apply, paired_apply, marks_apply p π hp hπ, marks_apply p π hp hπ, one_bits]
  by_cases h : (∃ k, π b n k = m) ∧ ∃ k, π b m k = n
  · rw [if_pos h.1, if_pos h.2, dif_pos h, mul_one, mul_one, h1, mul_zero, add_zero]
    have e := spread_hit p π hp u hπ b n (Classical.choose h.1)
    rwa [Classical.choose_spec h.1] at e
  · rw [dif_neg h]
    have h0 : (if ∃ k, π b n k = m then (1 : EReal) else 0) * (if ∃ k, π b m k = n then 1 else 0) = 0 := by
      split_ifs with h2 h3
      · exact absurd ⟨h2, h3⟩ h
      · exact mul_zero _
      · exact zero_mul _
      · exact zero_mul _
    rw [h0, mul_zero, sub_zero, mul_one, zero_add]

end Cert.Ref

end
-- ==== Proof.Nonzero.lean ====
/-
  Where no row is all zeros, no product of two scaled rows is -∞, so that the positions picked for a row differ.
-/
module

public import proofs.«01_k».proof.Proof.Spec

@[expose] public section

noncomputable section

namespace Cert.Nonzero

open Idealize.ShloMosaic Cert.Picks Cert.Spec

/-- A square is not negative. -/
theorem square_nonneg (x : EReal) : 0 ≤ x * x := by
  induction x with
  | bot => simp
  | top => simp
  | coe r => rw [← EReal.coe_mul]; exact_mod_cast mul_self_nonneg r

/-- Where the sum of squares is finite every entry is. -/
theorem entry_real (x : Fin 128 → EReal) (h : ∑ d, x d * x d ≠ ⊤) (d : Fin 128) : ∃ r : ℝ, x d = r := by
  have hle : x d * x d ≤ ∑ d, x d * x d :=
    Finset.single_le_sum (f := fun d => x d * x d) (fun d _ => square_nonneg (x d)) (Finset.mem_univ d)
  generalize x d = y at hle
  induction y with
  | bot => exact absurd (top_le_iff.1 (by simpa using hle)) h
  | top => exact absurd (top_le_iff.1 (by simpa using hle)) h
  | coe r => exact ⟨r, rfl⟩

/-- A sum of real numbers is the same on extended reals. -/
theorem real_sum (f : Fin 128 → ℝ) : ((∑ d, f d : ℝ) : EReal) = ∑ d, (f d : EReal) := by
  suffices h : ∀ t : Finset (Fin 128), ((∑ d ∈ t, f d : ℝ) : EReal) = ∑ d ∈ t, (f d : EReal) from
    h Finset.univ
  intro t
  induction t using Finset.induction_on with
  | empty => rw [Finset.sum_empty, Finset.sum_empty, EReal.coe_zero]
  | insert d t hd ih => rw [Finset.sum_insert hd, Finset.sum_insert hd, EReal.coe_add, ih]

variable (X : Fin 4 → Fin 2048 → Fin 128 → EReal) (hX : ∀ b n, 0 < ∑ d, X b n d * X b n d)

include hX in
/-- An entry of a scaled row is a real number. -/
theorem unit_real (b : Fin 4) (n : Fin 2048) (d : Fin 128) : ∃ r : ℝ, Spec.unit X b n d = r := by
  have h0 := hX b n
  unfold Spec.unit Spec.len
  by_cases ht : ∑ d, X b n d * X b n d = ⊤
  · rw [ht]
    refine ⟨0, ?_⟩
    have hq : Ideal.sqrt ⊤ = ⊤ := rfl
    rw [hq, Ideal.div, if_neg EReal.top_ne_zero, EReal.inv_top, mul_zero, EReal.coe_zero]
  · obtain ⟨x, hx⟩ := entry_real (X b n) ht d
    have hs : ∃ s : ℝ, ∑ d, X b n d * X b n d = s := by
      refine ⟨_, (EReal.coe_toReal ht ?_).symm⟩
      exact ne_of_gt (lt_trans EReal.bot_lt_zero h0)
    obtain ⟨s, hs⟩ := hs
    rw [hs] at h0 ⊢
    have hs0 : 0 < s := by exact_mod_cast h0
    refine ⟨x * (Real.sqrt s)⁻¹, ?_⟩
    have hq : Ideal.sqrt (s : EReal) = ((Real.sqrt s : ℝ) : EReal) := by
      show (if s < 0 then (⊥ : EReal) else (Real.sqrt s : EReal)) = _
      rw [if_neg (not_lt.2 hs0.le)]
    have hne : ((Real.sqrt s : ℝ) : EReal) ≠ 0 := by
      exact_mod_cast (Real.sqrt_pos.2 hs0).ne'
    rw [hq, hx, Ideal.div, if_neg hne, EReal.coe_mul, EReal.coe_inv]

include hX in
/-- A product of two scaled rows is not -∞. -/
theorem sim_ne_bot (b : Fin 4) (n m : Fin 2048) : Spec.sim X b n m ≠ ⊥ := by
  choose u hu using unit_real X hX
  have h : Spec.sim X b n m = ((∑ d, u b n d * u b m d : ℝ) : EReal) := by
    unfold Spec.sim
    rw [real_sum]
    exact Finset.sum_congr rfl fun d _ => by rw [hu, hu, EReal.coe_mul]
  rw [h]
  exact EReal.coe_ne_bot _

include hX in
/-- The positions picked for a row differ. -/
theorem idx_injective (b : Fin 4) (n : Fin 2048) : Function.Injective (Spec.idx X b n) := fun k l h =>
  Fin.ext (pick_injective (Spec.sim X b n) (sim_ne_bot X hX b n) (by omega) (by omega) h)

end Cert.Nonzero

end
-- ==== Proof.RefValue.lean ====
/-
  The reference computes the mathematics, where no row is all zeros.
-/
module

public import proofs.«01_k».proof.Proof.Ref2
public import proofs.«01_k».proof.Proof.Nonzero

@[expose] public section

set_option maxRecDepth 16384

noncomputable section

namespace Cert.Ref

open Cert.ReferenceIdeal Cert.ReferenceIdeal.Gen Idealize.ShloMosaic Idealize.ShloMosaic.TcCoe Idealize.SL.Sem Cert.Picks

variable (x : FVec Ideal S4x2048x128 .f32) (a : FVec Ideal S32x128 .f32) (e : FVec Ideal S32 .f32) (w w' : FVec Ideal S128x128 .f32)
  (X : Fin 4 → Fin 2048 → Fin 128 → EReal) (A : Fin 32 → Fin 128 → EReal) (E : Fin 32 → EReal) (M O : Fin 128 → Fin 128 → EReal)
  (hx : ∀ b n d, x (ix3 b n d) = X b n d) (ha : ∀ k d, a (ix2 k d) = A k d) (he : ∀ k, e (ix1 k) = E k)
  (hw : ∀ o d, w (ix2 o d) = M o d) (hw' : ∀ o d, w' (ix2 o d) = O o d)
  (hX : ∀ b n, 0 < ∑ d, X b n d * X b n d)

include hx in
/-- The reference's products of scaled rows. -/
theorem sims (b : Fin 4) (n m : Fin 2048) : products (scaled x) (ix3 b n m) = Spec.sim X b n m := by
  have hf : (fun b n d => x (ix3 b n d)) = X := funext fun b => funext fun n => funext fun d => hx b n d
  rw [products_apply]
  simp only [scaled_apply, hf]
  rfl

include hx hX in
/-- The reference's positions. -/
theorem picks (b : Fin 4) (n : Fin 2048) (k : Fin 32) :
    greatest (products (scaled x)) (ix3 b n k) = BitVec.ofNat 32 (Spec.idx X b n k).val := by
  have hf : (fun m => products (scaled x) (ix3 b n m)) = Spec.sim X b n := funext fun m => sims x X hx b n m
  refine (greatest_apply _ b n k fun m => ?_).trans ?_
  · rw [sims x X hx]; exact Nonzero.sim_ne_bot X hX b n m
  · rw [hf]; rfl

include hx ha he hX in
/-- The reference's entries before the softmax. -/
theorem logits (b : Fin 4) (n m : Fin 2048) :
    masked (spread (places (greatest (products (scaled x)))) (weights x a e))
        (paired (marks (places (greatest (products (scaled x)))))) (ix3 b n m)
      = Spec.logit X A E b n m := by
  refine (masked_places _ (Spec.idx X) (picks x X hx hX) (weights x a e) (Nonzero.idx_injective X hX) b n m).trans ?_
  unfold Spec.logit
  split_ifs with h
  · rw [weights_apply]
    simp only [hx, ha, he]
    rfl
  · rfl

include hx ha he hw hw' hX in
/-- The reference computes the result. -/
theorem whole_apply (b : Fin 4) (n : Fin 2048) (o : Fin 128) : whole x a e w w' (ix3 b n o) = Spec.out X A E M O b n o := by
  unfold whole
  generalize hd : masked (spread (places (greatest (products (scaled x)))) (weights x a e))
        (paired (marks (places (greatest (products (scaled x)))))) = d
  have hl : ∀ b n m, d (ix3 b n m) = Spec.logit X A E b n m := fun b n m => by
    rw [← hd]; exact logits x a e X A E hx ha he hX b n m
  have hp : ∀ b n m, powers d (ix3 b n m) = Spec.expo X A E b n m := fun b n m => by
    rw [powers_apply]
    simp only [hl]
    rfl
  rw [final_apply]
  simp only [shares_apply, hp, hx, hw, hw']
  rfl

end Cert.Ref

end
-- ==== Proof.Pre.lean ====
/-
  What the precondition says of the rows: the sum of a row's squares is positive.
-/
module

public import proofs.«01_k».proof.Defs
public import proofs.«01_k».proof.Proof.RunIdeal

@[expose] public section

set_option maxRecDepth 16384

noncomputable section

namespace Cert.Pre

open Idealize.ShloMosaic Idealize.ShloMosaic.TcCoe Idealize.ShloMosaic.Tactic Idealize.SL.Sem

/-- The shape facts that the precondition's operations take. -/
theorem facts : Cert.Pre_rows_nonzero.Facts where
  reducesTo_S4x2048x128_S4x2048_d2 := by decide
  h_S_ := by decide
  bcast_S_S4x2048 := by decide

/-- One entry of the precondition's array compares the sum of a row's squares with zero. -/
theorem fn_apply (x : FVec Ideal ⟨3, ![4, 2048, 128]⟩ .f32) (a : FVec Ideal ⟨2, ![32, 128]⟩ .f32)
    (e : FVec Ideal ⟨1, ![32]⟩ .f32) (w w' : FVec Ideal ⟨2, ![128, 128]⟩ .f32) (b : Fin 4) (n : Fin 2048) :
    (letI := facts; Cert.Pre_rows_nonzero.fn (F := Ideal) x a e w w' (ix2 b n))
      = BitVec.ofBool (decide (0 < ∑ d, x (ix3 b n d) * x (ix3 b n d))) := by
  pointwise [Cert.Pre_rows_nonzero.fn]

/-- Under the precondition the sum of every row's squares is positive. -/
theorem rows_pos (m : (l : Loc Cert.KernelIdeal.nD Cert.KernelIdeal.τ Cert.KernelIdeal.sig) → Buf (Elt Ideal) l)
    (h : Cert.Pre_KernelIdeal_rows_nonzero (hPre_rows_nonzero := facts) m) (c : Dev Cert.KernelIdeal.nD)
    (b : Fin 4) (n : Fin 2048) : 0 < ∑ d, RunIdeal.rows m c b n d * RunIdeal.rows m c b n d := by
  by_contra hn
  have h1 := (fn_apply _ _ _ _ _ b n).symm.trans (congrFun (h c) (ix2 b n))
  have h0 : BitVec.ofBool (decide (0 < ∑ d, RunIdeal.rows m c b n d * RunIdeal.rows m c b n d)) = 1#1 := h1
  rw [decide_eq_false hn] at h0
  exact absurd h0 (by decide)

end Cert.Pre

end
-- ==== Proof.lean ====
/-
  The proof of the claim: the three programs run without a fault and leave their arguments alone, and on extended reals
  the kernel and the reference end with the same result wherever no row is zero.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunIdeal
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem

/-- The kernel, on bit patterns, runs to its end without a fault and leaves its arguments as they were. -/
theorem frame_kernel : Cert.quiescent_Kernel (hKernel := Cert.Kernel.Gen.facts) :=
  fun m ρ _ => Cert.Kernel.Gen.frame m ρ

/-- The kernel, on extended reals, runs to its end without a fault and leaves its arguments as they were. -/
theorem frame_ideal : Cert.quiescent_KernelIdeal (hKernelIdeal := Cert.KernelIdeal.Gen.facts) :=
  fun m ρ _ => Cert.KernelIdeal.Gen.frame m ρ

/-- The reference, on extended reals, runs to its end without a fault and leaves its arguments as they were. It has no
    semaphore at all. -/
theorem frame_reference : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Cert.ReferenceIdeal.Value.run m ρ)

/-- The result that the mathematics writes, per device, from the kernel's arguments. -/
def result (m : (l : Loc Cert.KernelIdeal.nD Cert.KernelIdeal.τ Cert.KernelIdeal.sig) → Buf (Elt Ideal) l)
    (c : Dev Cert.KernelIdeal.nD) : FVec Ideal ⟨3, ![4, 2048, 128]⟩ .f32 :=
  Arrays1.outArr (RunIdeal.rows m c) (RunIdeal.att m c) (RunIdeal.bias m c) (RunIdeal.mat m c) (RunIdeal.mat' m c)

/-- The reference's value is what the mathematics writes, where the sum of every row's squares is positive. -/
theorem value_reference (m : (l : Loc Cert.KernelIdeal.nD Cert.KernelIdeal.τ Cert.KernelIdeal.sig) → Buf (Elt Ideal) l)
    (c : Dev Cert.KernelIdeal.nD)
    (hX : ∀ b n, 0 < ∑ d, RunIdeal.rows m c b n d * RunIdeal.rows m c b n d)
    (x : FVec Ideal ⟨3, ![4, 2048, 128]⟩ .f32) (a : FVec Ideal ⟨2, ![32, 128]⟩ .f32)
    (e : FVec Ideal ⟨1, ![32]⟩ .f32) (w w' : FVec Ideal ⟨2, ![128, 128]⟩ .f32)
    (hx : x = m ((c.tc : Thread Cert.KernelIdeal.nD Cert.KernelIdeal.τ).loc Cert.KernelIdeal.main_arg0))
    (ha : a = m ((c.tc : Thread Cert.KernelIdeal.nD Cert.KernelIdeal.τ).loc Cert.KernelIdeal.main_arg1))
    (he : e = m ((c.tc : Thread Cert.KernelIdeal.nD Cert.KernelIdeal.τ).loc Cert.KernelIdeal.main_arg2))
    (hw : w = m ((c.tc : Thread Cert.KernelIdeal.nD Cert.KernelIdeal.τ).loc Cert.KernelIdeal.main_arg3))
    (hw' : w' = m ((c.tc : Thread Cert.KernelIdeal.nD Cert.KernelIdeal.τ).loc Cert.KernelIdeal.main_arg4)) :
    Ref.whole x a e w w' = result m c := by
  funext y
  obtain ⟨b, n, o, rfl⟩ : ∃ (b : Fin 4) (n : Fin 2048) (o : Fin 128), y = ix3 b n o :=
    ⟨y 0, y 1, y 2, by funext i; fin_cases i <;> rfl⟩
  exact Ref.whole_apply x a e w w' (RunIdeal.rows m c) (RunIdeal.att m c) (RunIdeal.bias m c) (RunIdeal.mat m c) (RunIdeal.mat' m c)
    (fun b n d => congrFun hx _) (fun k d => congrFun ha _) (fun k => congrFun he _) (fun o d => congrFun hw _)
    (fun o d => congrFun hw' _) hX b n o

/-- On extended reals the kernel and the reference end with the same result, where the sum of every row's squares is positive. -/
theorem equal : Cert.algebraic_KernelIdeal_ReferenceIdeal_pre_rows_nonzero (hKernelIdeal := Cert.KernelIdeal.Gen.facts)
    (hReferenceIdeal := Cert.ReferenceIdeal.Gen.facts) (hPre_rows_nonzero := Pre.facts) :=
  fun m g m' g' hpre hargs =>
    ⟨result m,
      (θ_run _ _ _).mono
        (fun r h c => ⟨(h c).1.trans (RunIdeal.result m g c (Nonzero.idx_injective _ (Pre.rows_pos m hpre c))), (h c).2⟩)
        (RunIdeal.launched m g),
      (θ_run _ _ _).mono
        (fun r h c => ⟨(h c).1.trans ((Ref.res_eq m' c).trans (value_reference m c (Pre.rows_pos m hpre c) _ _ _ _ _
          (hargs c).1 (hargs c).2.1 (hargs c).2.2.1 (hargs c).2.2.2.1 (hargs c).2.2.2.2)), (h c).2⟩)
        (Cert.ReferenceIdeal.Value.run m' g')⟩

/-- Every claim together. -/
theorem claim : Cert.Claim :=
  ⟨Cert.Kernel.Gen.facts, Cert.KernelIdeal.Gen.facts, Cert.ReferenceIdeal.Gen.facts, Pre.facts,
    frame_kernel, frame_ideal, fun m ρ _ => Cert.KernelIdeal.Gen.frame m ρ,
    frame_reference, fun m ρ _ => frame_reference m ρ trivial, trivial, equal⟩

end Cert.Proof

end
